-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S1x256x128 Cert.KernelIdeal.S1x128x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x256x7168 : Shape := ⟨3, ![48, 256, 7168]⟩
abbrev S48x256x3584 : Shape := ⟨3, ![48, 256, 3584]⟩
abbrev S48x256x56 : Shape := ⟨3, ![48, 256, 56]⟩
abbrev S48x7168x64 : Shape := ⟨3, ![48, 7168, 64]⟩
abbrev S48x56x256 : Shape := ⟨3, ![48, 56, 256]⟩
abbrev S48x64x7168 : Shape := ⟨3, ![48, 64, 7168]⟩
abbrev S48x64x256 : Shape := ⟨3, ![48, 64, 256]⟩
abbrev S1x256x7168 : Shape := ⟨3, ![1, 256, 7168]⟩
abbrev S1x256x3584 : Shape := ⟨3, ![1, 256, 3584]⟩
abbrev S1x56x256 : Shape := ⟨3, ![1, 56, 256]⟩
abbrev S1x64x7168 : Shape := ⟨3, ![1, 64, 7168]⟩
abbrev S1x64x256 : Shape := ⟨3, ![1, 64, 256]⟩
abbrev S256x7168 : Shape := ⟨2, ![256, 7168]⟩
abbrev S7168x256 : Shape := ⟨2, ![7168, 256]⟩
abbrev S56x128 : Shape := ⟨2, ![56, 128]⟩
abbrev S56x256 : Shape := ⟨2, ![56, 256]⟩
abbrev S56x128x1 : Shape := ⟨3, ![56, 128, 1]⟩
abbrev S1x256x128 : Shape := ⟨3, ![1, 256, 128]⟩
abbrev S256x128 : Shape := ⟨2, ![256, 128]⟩
abbrev S64x128 : Shape := ⟨2, ![64, 128]⟩
abbrev S128x128 : Shape := ⟨2, ![128, 128]⟩
abbrev S128x7168 : Shape := ⟨2, ![128, 7168]⟩
abbrev S1x128x128 : Shape := ⟨3, ![1, 128, 128]⟩
abbrev S1x128 : Shape := ⟨2, ![1, 128]⟩
abbrev S64x7168 : Shape := ⟨2, ![64, 7168]⟩
abbrev S64x256 : Shape := ⟨2, ![64, 256]⟩
abbrev S64x128x1 : Shape := ⟨3, ![64, 128, 1]⟩
abbrev S48x256x64 : Shape := ⟨3, ![48, 256, 64]⟩

abbrev nBuf : Space → Nat
  | .hbm => 12
  | .vmem => 18
  | .smem => 0
  | _ => 0

abbrev bufTy : (tb : Table) → Fin (tcTables nBuf tb) → BufTy
  | .hbm, ⟨0, _⟩ => ⟨S48x256x7168, .bf16⟩
  | .hbm, ⟨1, _⟩ => ⟨S48x256x3584, .i8⟩
  | .hbm, ⟨2, _⟩ => ⟨S48x256x56, .f32⟩
  | .hbm, ⟨3, _⟩ => ⟨S48x7168x64, .bf16⟩
  | .hbm, ⟨4, _⟩ => ⟨S48x56x256, .f32⟩
  | .hbm, ⟨5, _⟩ => ⟨S48x64x7168, .bf16⟩
  | .hbm, ⟨6, _⟩ => ⟨S48x64x256, .f32⟩
  | .hbm, ⟨7, _⟩ => ⟨S48x64x7168, .f32⟩
  | .hbm, ⟨8, _⟩ => ⟨S48x64x256, .f32⟩
  | .hbm, ⟨9, _⟩ => ⟨S48x256x64, .f32⟩
  | .hbm, ⟨10, _⟩ => ⟨S48x7168x64, .f32⟩
  | .hbm, ⟨11, _⟩ => ⟨S48x256x64, .f32⟩
  | .local _ .vmem, ⟨0, _⟩ => ⟨S1x256x7168, .bf16⟩
  | .local _ .vmem, ⟨1, _⟩ => ⟨S1x256x7168, .bf16⟩
  | .local _ .vmem, ⟨2, _⟩ => ⟨S1x256x3584, .i8⟩
  | .local _ .vmem, ⟨3, _⟩ => ⟨S1x256x3584, .i8⟩
  | .local _ .vmem, ⟨4, _⟩ => ⟨S1x56x256, .f32⟩
  | .local _ .vmem, ⟨5, _⟩ => ⟨S1x56x256, .f32⟩
  | .local _ .vmem, ⟨6, _⟩ => ⟨S1x64x7168, .bf16⟩
  | .local _ .vmem, ⟨7, _⟩ => ⟨S1x64x7168, .bf16⟩
  | .local _ .vmem, ⟨8, _⟩ => ⟨S1x64x256, .f32⟩
  | .local _ .vmem, ⟨9, _⟩ => ⟨S1x64x256, .f32⟩
  | .local _ .vmem, ⟨10, _⟩ => ⟨S1x64x7168, .f32⟩
  | .local _ .vmem, ⟨11, _⟩ => ⟨S1x64x7168, .f32⟩
  | .local _ .vmem, ⟨12, _⟩ => ⟨S1x64x256, .f32⟩
  | .local _ .vmem, ⟨13, _⟩ => ⟨S1x64x256, .f32⟩
  | .local _ .vmem, ⟨14, _⟩ => ⟨S256x7168, .bf16⟩
  | .local _ .vmem, ⟨15, _⟩ => ⟨S7168x256, .bf16⟩
  | .local _ .vmem, ⟨16, _⟩ => ⟨S56x128, .f32⟩
  | .local _ .vmem, ⟨17, _⟩ => ⟨S56x128, .f32⟩
  | _, _ => ⟨S48x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![48], ![false]⟩

@[reducible] def k0_t1_loop : Scf.Loop 32 :=
  let c0_i32_27 : BitVec 32 := 0#32
  let c28_i32 : BitVec 32 := 28#32
  let v87 : BitVec 32 := Scalar.addi c0_i32_27 c28_i32
  let c1_i32_28 : BitVec 32 := 1#32
  ⟨c0_i32_27, v87, c1_i32_28⟩
def k0_off1 (k0_t1 : Fin k0_t1_loop.trips) : Fin 3 → Nat :=
  let c0_124 : Index := 0#32
  let c0_125 : Index := 0#32
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v335 : Index := Scalar.indexCast v334
  ![0, 0, v335.toNat]
def k0_off2 (k0_t1 : Fin k0_t1_loop.trips) (c0_i32_126 : BitVec 32) : Fin 3 → Nat :=
  let c0_i32_26 : BitVec 32 := 0#32
  let c0_i32_127 : BitVec 32 := 0#32
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v342 : BitVec 32 := Scalar.addi v334 c0_i32_126
  let v346 : Index := Scalar.indexCast v342
  ![0, 0, v346.toNat]
def k0_off3 (k0_t1 : Fin k0_t1_loop.trips) (c0_i32_130 : BitVec 32) : Fin 2 → Nat :=
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let v348 : BitVec 32 := Scalar.addi v333 c0_i32_130
  let v358 : Index := Scalar.indexCast v348
  let c0_133 : Index := 0#32
  ![v358.toNat, 0]
def k0_off4 (k0_t1 : Fin k0_t1_loop.trips) (c0_i32_126 : BitVec 32) : Fin 2 → Nat :=
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v342 : BitVec 32 := Scalar.addi v334 c0_i32_126
  let v364 : Index := Scalar.indexCast v342
  let c0_134 : Index := 0#32
  ![v364.toNat, 0]
def k0_off5 (k0_t1 : Fin k0_t1_loop.trips) (c0_i32_126 : BitVec 32) : Fin 2 → Nat :=
  let c0_135 : Index := 0#32
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v342 : BitVec 32 := Scalar.addi v334 c0_i32_126
  let v369 : Index := Scalar.indexCast v342
  ![0, v369.toNat]
def k0_off6 (k0_t1 : Fin k0_t1_loop.trips) (c0_i32_126 : BitVec 32) : Fin 2 → Nat :=
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v342 : BitVec 32 := Scalar.addi v334 c0_i32_126
  let v388 : Index := Scalar.indexCast v342
  let c128 : Index := 128#32
  ![v388.toNat, 128]
def k0_off7 (k0_t1 : Fin k0_t1_loop.trips) (c0_i32_126 : BitVec 32) : Fin 2 → Nat :=
  let c128_138 : Index := 128#32
  let c0_i32_122 : BitVec 32 := 0#32
  let c0_i32_27 : BitVec 32 := 0#32
  let c1_i32_28 : BitVec 32 := 1#32
  let arg12 : BitVec 32 := Scf.iv c0_i32_27 c1_i32_28 k0_t1
  let c1_i32_121 : BitVec 32 := 1#32
  let v332 : BitVec 32 := Scalar.muli arg12 c1_i32_121
  let v333 : BitVec 32 := Scalar.addi c0_i32_122 v332
  let c128_i32_123 : BitVec 32 := 128#32
  let v334 : BitVec 32 := Scalar.muli v333 c128_i32_123
  let v342 : BitVec 32 := Scalar.addi v334 c0_i32_126
  let v393 : Index := Scalar.indexCast v342
  ![128, v393.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S48x256x7168 : Shape := ⟨3, ![48, 256, 7168]⟩
abbrev S48x256x3584 : Shape := ⟨3, ![48, 256, 3584]⟩
abbrev S48x256x56 : Shape := ⟨3, ![48, 256, 56]⟩
abbrev S48x7168x64 : Shape := ⟨3, ![48, 7168, 64]⟩
abbrev S_ : Shape := ⟨0, ![]⟩
abbrev S48x256x28 : Shape := ⟨3, ![48, 256, 28]⟩
abbrev S48x256x28x128 : Shape := ⟨4, ![48, 256, 28, 128]⟩
abbrev S48x256x28x1 : Shape := ⟨4, ![48, 256, 28, 1]⟩
abbrev S48x3584x64 : Shape := ⟨3, ![48, 3584, 64]⟩
abbrev S48x256x64 : Shape := ⟨3, ![48, 256, 64]⟩

abbrev nBuf : Space → Nat
  | .hbm => 74
  | .vmem => 0
  | .smem => 0
  | _ => 0

abbrev bufTy : (tb : Table) → Fin (tcTables nBuf tb) → BufTy
  | .hbm, ⟨0, _⟩ => ⟨S48x256x7168, .bf16⟩
  | .hbm, ⟨1, _⟩ => ⟨S48x256x3584, .i8⟩
  | .hbm, ⟨2, _⟩ => ⟨S48x256x56, .f32⟩
  | .hbm, ⟨3, _⟩ => ⟨S48x7168x64, .bf16⟩
  | .hbm, ⟨4, _⟩ => ⟨S48x256x3584, .i32⟩
  | .hbm, ⟨5, _⟩ => ⟨S_, .i32⟩
  | .hbm, ⟨6, _⟩ => ⟨S48x256x3584, .i32⟩
  | .hbm, ⟨7, _⟩ => ⟨S48x256x3584, .i32⟩
  | .hbm, ⟨8, _⟩ => ⟨S_, .i32⟩
  | .hbm, ⟨9, _⟩ => ⟨S48x256x3584, .i32⟩
  | .hbm, ⟨10, _⟩ => ⟨S48x256x3584, .i1⟩
  | .hbm, ⟨11, _⟩ => ⟨S_, .i32⟩
  | .hbm, ⟨12, _⟩ => ⟨S48x256x3584, .i32⟩
  | .hbm, ⟨13, _⟩ => ⟨S48x256x3584, .i32⟩
  | .hbm, ⟨14, _⟩ => ⟨S48x256x3584, .i32⟩
  | .hbm, ⟨15, _⟩ => ⟨S_, .i32⟩
  | .hbm, ⟨16, _⟩ => ⟨S48x256x3584, .i32⟩
  | .hbm, ⟨17, _⟩ => ⟨S48x256x3584, .i32⟩
  | .hbm, ⟨18, _⟩ => ⟨S_, .i32⟩
  | .hbm, ⟨19, _⟩ => ⟨S48x256x3584, .i32⟩
  | .hbm, ⟨20, _⟩ => ⟨S48x256x3584, .i1⟩
  | .hbm, ⟨21, _⟩ => ⟨S_, .i32⟩
  | .hbm, ⟨22, _⟩ => ⟨S48x256x3584, .i32⟩
  | .hbm, ⟨23, _⟩ => ⟨S48x256x3584, .i32⟩
  | .hbm, ⟨24, _⟩ => ⟨S48x256x3584, .i32⟩
  | .hbm, ⟨25, _⟩ => ⟨S48x256x3584, .bf16⟩
  | .hbm, ⟨26, _⟩ => ⟨S48x256x28, .f32⟩
  | .hbm, ⟨27, _⟩ => ⟨S48x256x3584, .f32⟩
  | .hbm, ⟨28, _⟩ => ⟨S48x256x28x128, .f32⟩
  | .hbm, ⟨29, _⟩ => ⟨S48x256x3584, .f32⟩
  | .hbm, ⟨30, _⟩ => ⟨S48x256x28x128, .f32⟩
  | .hbm, ⟨31, _⟩ => ⟨S48x256x28x1, .f32⟩
  | .hbm, ⟨32, _⟩ => ⟨S48x256x28x128, .f32⟩
  | .hbm, ⟨33, _⟩ => ⟨S48x256x28x128, .f32⟩
  | .hbm, ⟨34, _⟩ => ⟨S48x256x28x128, .f32⟩
  | .hbm, ⟨35, _⟩ => ⟨S48x256x28x128, .bf16⟩
  | .hbm, ⟨36, _⟩ => ⟨S48x256x3584, .bf16⟩
  | .hbm, ⟨37, _⟩ => ⟨S48x256x3584, .bf16⟩
  | .hbm, ⟨38, _⟩ => ⟨S48x256x28, .f32⟩
  | .hbm, ⟨39, _⟩ => ⟨S48x256x3584, .f32⟩
  | .hbm, ⟨40, _⟩ => ⟨S48x256x28x128, .f32⟩
  | .hbm, ⟨41, _⟩ => ⟨S48x256x3584, .f32⟩
  | .hbm, ⟨42, _⟩ => ⟨S48x256x28x128, .f32⟩
  | .hbm, ⟨43, _⟩ => ⟨S48x256x28x1, .f32⟩
  | .hbm, ⟨44, _⟩ => ⟨S48x256x28x128, .f32⟩
  | .hbm, ⟨45, _⟩ => ⟨S48x256x28x128, .f32⟩
  | .hbm, ⟨46, _⟩ => ⟨S48x256x28x128, .f32⟩
  | .hbm, ⟨47, _⟩ => ⟨S48x256x28x128, .bf16⟩
  | .hbm, ⟨48, _⟩ => ⟨S48x256x3584, .bf16⟩
  | .hbm, ⟨49, _⟩ => ⟨S48x3584x64, .bf16⟩
  | .hbm, ⟨50, _⟩ => ⟨S48x3584x64, .bf16⟩
  | .hbm, ⟨51, _⟩ => ⟨S48x256x64, .f32⟩
  | .hbm, ⟨52, _⟩ => ⟨S48x256x64, .f32⟩
  | .hbm, ⟨53, _⟩ => ⟨S48x256x64, .f32⟩
  | .hbm, ⟨54, _⟩ => ⟨S48x256x64, .bf16⟩
  | .hbm, ⟨55, _⟩ => ⟨S48x3584x64, .f32⟩
  | .hbm, ⟨56, _⟩ => ⟨S48x3584x64, .f32⟩
  | .hbm, ⟨57, _⟩ => ⟨S48x3584x64, .bf16⟩
  | .hbm, ⟨58, _⟩ => ⟨S48x256x64, .f32⟩
  | .hbm, ⟨59, _⟩ => ⟨S48x3584x64, .bf16⟩
  | .hbm, ⟨60, _⟩ => ⟨S48x256x64, .f32⟩
  | .hbm, ⟨61, _⟩ => ⟨S48x256x64, .f32⟩
  | .hbm, ⟨62, _⟩ => ⟨S48x256x64, .bf16⟩
  | .hbm, ⟨63, _⟩ => ⟨S48x3584x64, .f32⟩
  | .hbm, ⟨64, _⟩ => ⟨S48x3584x64, .f32⟩
  | .hbm, ⟨65, _⟩ => ⟨S48x3584x64, .bf16⟩
  | .hbm, ⟨66, _⟩ => ⟨S48x256x64, .f32⟩
  | .hbm, ⟨67, _⟩ => ⟨S48x3584x64, .bf16⟩
  | .hbm, ⟨68, _⟩ => ⟨S48x256x64, .f32⟩
  | .hbm, ⟨69, _⟩ => ⟨S48x256x64, .f32⟩
  | .hbm, ⟨70, _⟩ => ⟨S48x256x64, .bf16⟩
  | .hbm, ⟨71, _⟩ => ⟨S48x3584x64, .f32⟩
  | .hbm, ⟨72, _⟩ => ⟨S48x3584x64, .f32⟩
  | .hbm, ⟨73, _⟩ => ⟨S48x7168x64, .f32⟩
  | _, _ => ⟨S48x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Proof.Nibble.lean ====
module
public import proofs.«01_k».proof.Proof.Gen.KernelIdeal.Skeleton
public import Idealize.ShloMosaic.Lib.Pointwise
public import Idealize.ShloMosaic.Lib.BitcastPair
public import Idealize.ShloMosaic.Lib.BitcastFour
@[expose] public section
set_option maxRecDepth 16384

noncomputable section

namespace Cert.KernelIdeal.Val

open Cert.KernelIdeal Cert.KernelIdeal.Gen Idealize.ShloMosaic Idealize.ShloMosaic.TcCoe Idealize.ShloMosaic.Tactic

/-! # The four-bit codes: a byte's two nibbles, sign-extended -/

/-- A word shifted left by `n` and back down by 28 with its sign: bits `28 - n … 31 - n` as a signed number. -/
def field (x : BitVec 32) (n : BitVec 32) : BitVec 32 :=
  IntOp.shrsi ArithUnit.vector (IntOp.shli ArithUnit.vector x n) 28#32

/-- The low nibble of a byte, sign-extended. -/
def nibLo (b : BitVec 8) : BitVec 32 := field (b.setWidth 32) 28#32
/-- The high nibble of a byte, sign-extended. -/
def nibHi (b : BitVec 8) : BitVec 32 := field (b.setWidth 32) 24#32

/-- Two fields whose four bits agree are equal. -/
theorem field_congr (x y : BitVec 32) (n m : ℕ) (hn : n ≤ 28) (hm : m ≤ 28)
    (h : ∀ q < 4, x.getLsbD (28 - n + q) = y.getLsbD (28 - m + q)) :
    (x <<< n).sshiftRight 28 = (y <<< m).sshiftRight 28 := by
  apply BitVec.eq_of_getLsbD_eq
  intro i hi
  have e : ∀ (z : BitVec 32) (k q : ℕ), k ≤ 28 → q < 4 → (z <<< k).getLsbD (28 + q) = z.getLsbD (28 - k + q) := by
    intro z k q hk hq
    rw [BitVec.getLsbD_shiftLeft]
    have h1 : 28 + q < 32 := by omega
    have h2 : ¬ (28 + q < k) := by omega
    simp only [h1, h2, decide_true, decide_false, Bool.not_false, Bool.true_and]
    congr 1
    omega
  rw [BitVec.getLsbD_sshiftRight, BitVec.getLsbD_sshiftRight]
  have h1 : ¬ (32 ≤ i) := by omega
  simp only [h1, decide_false, Bool.not_false, Bool.true_and]
  by_cases h4 : 28 + i < 32
  · rw [if_pos h4, if_pos h4, e x n i hn (by omega), e y m i hm (by omega), h i (by omega)]
  · rw [if_neg h4, if_neg h4, BitVec.msb_eq_getLsbD_last, BitVec.msb_eq_getLsbD_last]
    have := h 3 (by omega)
    rw [show 32 - 1 = 28 + 3 from rfl, e x n 3 hn (by omega), e y m 3 hm (by omega), this]

/-- The field at shift 28, unfolded. -/
theorem field_28 (x : BitVec 32) : field x 28#32 = (x <<< 28).sshiftRight 28 := rfl

/-- The field at shift 24, unfolded. -/
theorem field_24 (x : BitVec 32) : field x 24#32 = (x <<< 24).sshiftRight 28 := rfl

/-- The field at shift 20, unfolded. -/
theorem field_20 (x : BitVec 32) : field x 20#32 = (x <<< 20).sshiftRight 28 := rfl

/-- The field at shift 16, unfolded. -/
theorem field_16 (x : BitVec 32) : field x 16#32 = (x <<< 16).sshiftRight 28 := rfl

/-- The reference's sign extension of a nibble held in `0 … 15`: sixteen less from eight on. -/
def unpack (f : BitVec 32) : BitVec 32 := if IntOp.cmpi .sge f 8#32 = 1#1 then IntOp.subi f 16#32 else f

/-- The reference's low field of a byte is its sign-extended low nibble. -/
theorem unpack_lo : ∀ b : BitVec 8, unpack (IntOp.andi (b.setWidth 32) 15#32) = nibLo b := by
  intro b
  rw [nibLo, field_28]
  revert b
  decide +kernel

/-- At rank 2 a bit-cast's source index is the row it names, in the same lane. -/
theorem srcIdx_ix2 {R r n v w : ℕ} (h : (⟨2, ![R, n]⟩ : Shape).Bitcasts v ⟨2, ![r, n]⟩ w) (a : Fin r) (l : Fin n) (p : ℕ)
    (hp : ∀ b : Fin 2, b.val + 2 = 2 → p < (⟨2, ![R, n]⟩ : Shape).size b) (p' : Fin R) (e : p'.val = p) :
    h.srcIdx (ix2 a l) p hp = ix2 p' l := by
  funext c
  match c with
  | ⟨0, _⟩ => exact Fin.ext ((h.srcIdx_row _ _ _ ⟨0, Nat.zero_lt_two⟩ rfl).trans e.symm)
  | ⟨1, _⟩ => exact Fin.ext (h.srcIdx_other _ _ _ ⟨1, Nat.one_lt_two⟩ (by show ¬ 1 + 2 = 2; omega))

/-- The sixteen-bit word of two byte rows, read at a bit: bytes `2i` and `2i + 1` of lane `l`. -/
theorem word_bit (v : Vec Ideal S1x256x128 .i8) (l i : Fin 128) (q : ℕ) (hq : q < 16) (p : Fin 256)
    (hp : p.val = 2 * i.val + q / 8) :
    (k0_pay3 (F := Ideal) v (ix2 l i)).getLsbD q = (v (ix3 0 p l)).getLsbD (q % 8) := by
  pointwise [k0_pay3]
  rw [BitVec.getLsbD_signExtend]
  have h1 : q < 32 := by omega
  simp only [h1, hq, decide_true, Bool.true_and, if_true]
  rw [bitcast_getLsbD _ _ _ q hq (by decide)]
  have r1 : S128x128.row (ix2 i l) = i.val := rfl
  have hi := i.isLt
  rw [srcIdx_ix2 bitcasts_S64x128_w32_S128x128_w16 i l _ _ ⟨i.val / 2, by omega⟩ (by rw [r1]; show i.val / 2 = _; omega)]
  rw [bitcast_getLsbD _ _ _ _ (by omega) (by decide)]
  have r2 : S64x128.row (ix2 (⟨i.val / 2, by omega⟩ : Fin 64) l) = i.val / 2 := rfl
  rw [srcIdx_ix2 bitcasts_S256x128_w8_S64x128_w32 ⟨i.val / 2, by omega⟩ l _ _ p (by rw [r1, r2]; omega), r1, r2]
  pointwise []
  congr 1
  omega

/-- The word of bytes `2i` and `2i + 1`, shifted by 28: the low nibble of byte `2i`. -/
theorem word_28 (v : Vec Ideal S1x256x128 .i8) (l i : Fin 128) :
    field (k0_pay3 (F := Ideal) v (ix2 l i)) 28#32 = nibLo (v (ix3 0 ⟨2 * i.val, by omega⟩ l)) := by
  rw [nibLo, field_28, field_28]
  refine field_congr _ _ 28 28 (by decide) (by decide) fun q hq => ?_
  rw [word_bit v l i (28 - 28 + q) (by omega) ⟨2 * i.val, by omega⟩ (by show 2 * i.val = 2 * i.val + (28 - 28 + q) / 8; omega), BitVec.getLsbD_setWidth]
  have h1 : 28 - 28 + q < 32 := by omega
  simp only [h1, decide_true, Bool.true_and]
  congr 1
  omega

/-- The word of bytes `2i` and `2i + 1`, shifted by 20: the low nibble of byte `2i + 1`. -/
theorem word_20 (v : Vec Ideal S1x256x128 .i8) (l i : Fin 128) :
    field (k0_pay3 (F := Ideal) v (ix2 l i)) 20#32 = nibLo (v (ix3 0 ⟨2 * i.val + 1, by omega⟩ l)) := by
  rw [nibLo, field_20, field_28]
  refine field_congr _ _ 20 28 (by decide) (by decide) fun q hq => ?_
  rw [word_bit v l i (28 - 20 + q) (by omega) ⟨2 * i.val + 1, by omega⟩ (by show 2 * i.val + 1 = 2 * i.val + (28 - 20 + q) / 8; omega), BitVec.getLsbD_setWidth]
  have h1 : 28 - 28 + q < 32 := by omega
  simp only [h1, decide_true, Bool.true_and]
  congr 1
  omega

/-- The word of bytes `2i` and `2i + 1`, shifted by 24: the high nibble of byte `2i`. -/
theorem word_24 (v : Vec Ideal S1x256x128 .i8) (l i : Fin 128) :
    field (k0_pay3 (F := Ideal) v (ix2 l i)) 24#32 = nibHi (v (ix3 0 ⟨2 * i.val, by omega⟩ l)) := by
  rw [nibHi, field_24, field_24]
  refine field_congr _ _ 24 24 (by decide) (by decide) fun q hq => ?_
  rw [word_bit v l i (28 - 24 + q) (by omega) ⟨2 * i.val, by omega⟩ (by show 2 * i.val = 2 * i.val + (28 - 24 + q) / 8; omega), BitVec.getLsbD_setWidth]
  have h1 : 28 - 24 + q < 32 := by omega
  simp only [h1, decide_true, Bool.true_and]
  congr 1
  omega

/-- The word of bytes `2i` and `2i + 1`, shifted by 16: the high nibble of byte `2i + 1`. -/
theorem word_16 (v : Vec Ideal S1x256x128 .i8) (l i : Fin 128) :
    field (k0_pay3 (F := Ideal) v (ix2 l i)) 16#32 = nibHi (v (ix3 0 ⟨2 * i.val + 1, by omega⟩ l)) := by
  rw [nibHi, field_16, field_24]
  refine field_congr _ _ 16 24 (by decide) (by decide) fun q hq => ?_
  rw [word_bit v l i (28 - 16 + q) (by omega) ⟨2 * i.val + 1, by omega⟩ (by show 2 * i.val + 1 = 2 * i.val + (28 - 16 + q) / 8; omega), BitVec.getLsbD_setWidth]
  have h1 : 28 - 24 + q < 32 := by omega
  simp only [h1, decide_true, Bool.true_and]
  congr 1
  omega

end Cert.KernelIdeal.Val
end
-- ==== Proof.Tile.lean ====
module
public import proofs.«01_k».proof.Proof.Nibble
@[expose] public section
set_option maxRecDepth 16384

noncomputable section

namespace Cert.KernelIdeal.Val

open Cert.KernelIdeal Cert.KernelIdeal.Gen Idealize.ShloMosaic Idealize.ShloMosaic.TcCoe Idealize.ShloMosaic.Tactic

/-! # One 128 × 128 tile of the error matrix, as the kernel computes it

`v` is the block of codes, `w` the block of weights, `z` the row of scales; a tile holds the rows of one parity. -/

/-- A weight less its code's value at a scale. -/
def err (w : EReal) (n : BitVec 32) (z : EReal) : EReal := w - (FloatOps.sitofp (F := Ideal) FTy.f32 n : EReal) * z

/-- Tile of the even rows, low nibbles: entry `(l, i)`. -/
theorem pay5_at (v : Vec Ideal S1x256x128 .i8) (w : Vec Ideal S1x256x128 .bf16) (z : Vec Ideal S1x128 .f32) (l i : Fin 128) :
    k0_pay5 (F := Ideal) v w z (ix2 l i) = err (w (ix3 0 ⟨2 * i.val, by omega⟩ l)) (nibLo (v (ix3 0 ⟨2 * i.val, by omega⟩ l))) (z (ix2 0 i)) := by
  have h := word_28 v l i
  unfold field at h
  pointwise [k0_pay5]
  rw [h]
  rfl

/-- … as it is stored in the transposed scratch. -/
theorem pay6_at (v : Vec Ideal S1x256x128 .i8) (w : Vec Ideal S1x256x128 .bf16) (z : Vec Ideal S1x128 .f32) (l i : Fin 128) :
    k0_pay6 (F := Ideal) v w z (ix2 l i) = err (w (ix3 0 ⟨2 * i.val, by omega⟩ l)) (nibLo (v (ix3 0 ⟨2 * i.val, by omega⟩ l))) (z (ix2 0 i)) := by
  rw [← pay5_at v w z l i]
  pointwise [k0_pay6]

/-- … as it is stored, transposed, in the other scratch. -/
theorem pay7_at (v : Vec Ideal S1x256x128 .i8) (w : Vec Ideal S1x256x128 .bf16) (z : Vec Ideal S1x128 .f32) (l i : Fin 128) :
    k0_pay7 (F := Ideal) v w z (ix2 i l) = err (w (ix3 0 ⟨2 * i.val, by omega⟩ l)) (nibLo (v (ix3 0 ⟨2 * i.val, by omega⟩ l))) (z (ix2 0 i)) := by
  rw [← pay5_at v w z l i]
  pointwise [k0_pay7]

/-- Tile of the odd rows, low nibbles: entry `(l, i)`. -/
theorem pay8_at (v : Vec Ideal S1x256x128 .i8) (w : Vec Ideal S1x256x128 .bf16) (z : Vec Ideal S1x128 .f32) (l i : Fin 128) :
    k0_pay8 (F := Ideal) (k0_pay3 v) (k0_pay4 w) z (ix2 l i) = err (w (ix3 0 ⟨2 * i.val + 1, by omega⟩ l)) (nibLo (v (ix3 0 ⟨2 * i.val + 1, by omega⟩ l))) (z (ix2 0 i)) := by
  have h := word_20 v l i
  unfold field at h
  pointwise [k0_pay8, k0_pay4]
  rw [h]
  rfl

/-- … as it is stored in the transposed scratch. -/
theorem pay9_at (v : Vec Ideal S1x256x128 .i8) (w : Vec Ideal S1x256x128 .bf16) (z : Vec Ideal S1x128 .f32) (l i : Fin 128) :
    k0_pay9 (F := Ideal) (k0_pay3 v) (k0_pay4 w) z (ix2 l i) = err (w (ix3 0 ⟨2 * i.val + 1, by omega⟩ l)) (nibLo (v (ix3 0 ⟨2 * i.val + 1, by omega⟩ l))) (z (ix2 0 i)) := by
  rw [← pay8_at v w z l i]
  pointwise [k0_pay9]

/-- … as it is stored, transposed, in the other scratch. -/
theorem pay10_at (v : Vec Ideal S1x256x128 .i8) (w : Vec Ideal S1x256x128 .bf16) (z : Vec Ideal S1x128 .f32) (l i : Fin 128) :
    k0_pay10 (F := Ideal) (k0_pay3 v) (k0_pay4 w) z (ix2 i l) = err (w (ix3 0 ⟨2 * i.val + 1, by omega⟩ l)) (nibLo (v (ix3 0 ⟨2 * i.val + 1, by omega⟩ l))) (z (ix2 0 i)) := by
  rw [← pay8_at v w z l i]
  pointwise [k0_pay10]

/-- Tile of the even rows, high nibbles: entry `(l, i)`. -/
theorem pay24_at (v : Vec Ideal S1x256x128 .i8) (w : Vec Ideal S1x256x128 .bf16) (z : Vec Ideal S1x128 .f32) (l i : Fin 128) :
    k0_pay24 (F := Ideal) (k0_pay12 w) (k0_pay13 (k0_pay3 v) z) (ix2 l i) = err (w (ix3 0 ⟨2 * i.val, by omega⟩ l)) (nibHi (v (ix3 0 ⟨2 * i.val, by omega⟩ l))) (z (ix2 0 i)) := by
  have h := word_24 v l i
  unfold field at h
  pointwise [k0_pay24, k0_pay12, k0_pay13]
  rw [h]
  rfl

/-- … as it is stored in the transposed scratch. -/
theorem pay25_at (v : Vec Ideal S1x256x128 .i8) (w : Vec Ideal S1x256x128 .bf16) (z : Vec Ideal S1x128 .f32) (l i : Fin 128) :
    k0_pay25 (F := Ideal) (k0_pay12 w) (k0_pay13 (k0_pay3 v) z) (ix2 l i) = err (w (ix3 0 ⟨2 * i.val, by omega⟩ l)) (nibHi (v (ix3 0 ⟨2 * i.val, by omega⟩ l))) (z (ix2 0 i)) := by
  rw [← pay24_at v w z l i]
  pointwise [k0_pay25]

/-- … as it is stored, transposed, in the other scratch. -/
theorem pay26_at (v : Vec Ideal S1x256x128 .i8) (w : Vec Ideal S1x256x128 .bf16) (z : Vec Ideal S1x128 .f32) (l i : Fin 128) :
    k0_pay26 (F := Ideal) (k0_pay12 w) (k0_pay13 (k0_pay3 v) z) (ix2 i l) = err (w (ix3 0 ⟨2 * i.val, by omega⟩ l)) (nibHi (v (ix3 0 ⟨2 * i.val, by omega⟩ l))) (z (ix2 0 i)) := by
  rw [← pay24_at v w z l i]
  pointwise [k0_pay26]

/-- Tile of the odd rows, high nibbles: entry `(l, i)`. -/
theorem pay27_at (v : Vec Ideal S1x256x128 .i8) (w : Vec Ideal S1x256x128 .bf16) (z : Vec Ideal S1x128 .f32) (l i : Fin 128) :
    k0_pay27 (F := Ideal) (k0_pay3 v) (k0_pay11 w) z (ix2 l i) = err (w (ix3 0 ⟨2 * i.val + 1, by omega⟩ l)) (nibHi (v (ix3 0 ⟨2 * i.val + 1, by omega⟩ l))) (z (ix2 0 i)) := by
  have h := word_16 v l i
  unfold field at h
  pointwise [k0_pay27, k0_pay11]
  rw [h]
  rfl

/-- … as it is stored in the transposed scratch. -/
theorem pay28_at (v : Vec Ideal S1x256x128 .i8) (w : Vec Ideal S1x256x128 .bf16) (z : Vec Ideal S1x128 .f32) (l i : Fin 128) :
    k0_pay28 (F := Ideal) (k0_pay3 v) (k0_pay11 w) z (ix2 l i) = err (w (ix3 0 ⟨2 * i.val + 1, by omega⟩ l)) (nibHi (v (ix3 0 ⟨2 * i.val + 1, by omega⟩ l))) (z (ix2 0 i)) := by
  rw [← pay27_at v w z l i]
  pointwise [k0_pay28]

/-- … as it is stored, transposed, in the other scratch. -/
theorem pay29_at (v : Vec Ideal S1x256x128 .i8) (w : Vec Ideal S1x256x128 .bf16) (z : Vec Ideal S1x128 .f32) (l i : Fin 128) :
    k0_pay29 (F := Ideal) (k0_pay3 v) (k0_pay11 w) z (ix2 i l) = err (w (ix3 0 ⟨2 * i.val + 1, by omega⟩ l)) (nibHi (v (ix3 0 ⟨2 * i.val + 1, by omega⟩ l))) (z (ix2 0 i)) := by
  rw [← pay27_at v w z l i]
  pointwise [k0_pay29]

end Cert.KernelIdeal.Val
end
-- ==== Proof.Lanes.lean ====
module
public import proofs.«01_k».proof.Proof.Tile
@[expose] public section
set_option maxRecDepth 16384

noncomputable section

namespace Cert.KernelIdeal.Val

open Cert.KernelIdeal Cert.KernelIdeal.Gen Idealize.ShloMosaic Idealize.ShloMosaic.TcCoe Idealize.ShloMosaic.Tactic

/-! # The lane gathers: the split of the scales by row parity, and the interleaving of a result's two halves -/

/-- A select between the same gather out of two tables is a gather of the select: what each table gives at its lane. -/
theorem select_gather {n : ℕ} (A B : (⟨2, ![n, 128]⟩ : Shape).Idx → EReal) (g : Fin n) {b b' : BitVec 1} {p q p' : Fin 128}
    (hb : b = b') (hp : p.val = p'.val) (hq : q.val = p'.val) :
    Scalar.select b (A (ix2 g p)) (B (ix2 g q)) = Scalar.select b' (A (ix2 g p')) (B (ix2 g p')) := by
  obtain rfl := hb
  obtain rfl := Fin.ext hp
  obtain rfl := Fin.ext hq
  rfl

/-- The lanes below 64. -/
theorem pay17_at (g : Fin 56) (l : Fin 128) : k0_pay17 (ix2 g l) = if l.val < 64 then 1#1 else 0#1 := by
  pointwise [k0_pay17]
  revert l
  decide +kernel

/-- Twice the lane, modulo 128. -/
theorem pay18_at (g : Fin 56) (l : Fin 128) : k0_pay18 (ix2 g l) = BitVec.ofNat 32 (2 * l.val % 128) := by
  pointwise [k0_pay18]
  revert l
  decide +kernel

/-- The scales of the even rows: lane `l` of group `g` is row `2l`'s. -/
theorem sev_at (v : Vec Ideal S1x56x256 .f32) (g : Fin 56) (l : Fin 128) :
    k0_pay22 (F := Ideal) k0_pay17 (k0_pay19 v) (k0_pay20 v) (ix2 g l) = v (ix3 0 g ⟨2 * l.val, by omega⟩) := by
  pointwise [k0_pay22, k0_pay19, k0_pay20, k0_pay14, k0_pay15, k0_pay16]
  rw [pay17_at]
  have e : ∀ l : Fin 128, (Scalar.select (IntOp.cmpi CmpIPredicate.slt (BitVec.ofNat 32 (2 * l.val % 128)) 0#32)
      (IntOp.addi (BitVec.ofNat 32 (2 * l.val % 128)) 128#32) (BitVec.ofNat 32 (2 * l.val % 128))).toNat % 128 = 2 * l.val % 128 := by
    decide +kernel
  have h2 := e l
  rw [← pay18_at g l] at h2
  by_cases h : l.val < 64
  · rw [if_pos h]
    exact congrArg v (congrArg (ix3 0 g) (Fin.ext (h2.trans (by show 2 * l.val % 128 = 2 * l.val; omega))))
  · rw [if_neg h]
    exact congrArg v (congrArg (ix3 0 g) (Fin.ext ((congrArg (128 + ·) h2).trans (by show 128 + 2 * l.val % 128 = 2 * l.val; omega))))

/-- The scales of the odd rows: lane `l` of group `g` is row `2l + 1`'s. -/
theorem sod_at (v : Vec Ideal S1x56x256 .f32) (g : Fin 56) (l : Fin 128) :
    k0_pay23 (F := Ideal) (k0_pay21 (iota .tc S56x128 32 [1] iota_S56x128_d1_w32) (k0_pay15 v) (k0_pay16 v) k0_pay17) (ix2 g l)
      = v (ix3 0 g ⟨2 * l.val + 1, by omega⟩) := by
  have e : k0_pay23 (F := Ideal) (k0_pay21 (iota .tc S56x128 32 [1] iota_S56x128_d1_w32) (k0_pay15 v) (k0_pay16 v) k0_pay17) (ix2 g l)
      = Scalar.select (if l.val < 64 then 1#1 else 0#1) (k0_pay15 v (ix2 g ⟨(2 * l.val + 1) % 128, by omega⟩)) (k0_pay16 v (ix2 g ⟨(2 * l.val + 1) % 128, by omega⟩)) := by
    rw [← pay17_at g l]
    pointwise [k0_pay23, k0_pay21]
    refine select_gather _ _ g rfl ?_ ?_ <;> (dsimp only; revert l; decide +kernel)
  rw [e]
  pointwise [k0_pay14, k0_pay15, k0_pay16]
  by_cases h : l.val < 64
  · rw [if_pos h]
    refine congrArg v (congrArg (ix3 0 g) (Fin.ext ?_))
    show (2 * l.val + 1) % 128 = 2 * l.val + 1
    omega
  · rw [if_neg h]
    refine congrArg v (congrArg (ix3 0 g) (Fin.ext ?_))
    show 128 + (2 * l.val + 1) % 128 = 2 * l.val + 1
    omega

/-- The even lanes. -/
theorem pay33_at (g : Fin 64) (l : Fin 128) : k0_pay33 (ix2 g l) = if l.val % 2 = 0 then 1#1 else 0#1 := by
  pointwise [k0_pay33]
  revert l
  decide +kernel

/-- The even lanes, as the last output has them. -/
theorem pay44_at (g : Fin 64) (l : Fin 128) : k0_pay44 (ix2 g l) = if l.val % 2 = 0 then 1#1 else 0#1 := pay33_at g l

/-- Two halves interleaved: column `s` is column `s / 2` of the half of `s`'s parity. -/
def inter (A B : FVec Ideal S64x128 .f32) (g : Fin 64) (s : Fin 256) : EReal :=
  if s.val % 2 = 0 then A (ix2 g ⟨s.val / 2, by omega⟩) else B (ix2 g ⟨s.val / 2, by omega⟩)

/-- The low 128 columns of the interleaving. -/
theorem inter_lo (A B : FVec Ideal S64x128 .f32) (g : Fin 64) (l : Fin 128) :
    k0_pay36 (F := Ideal) A B (iota .tc S64x128 32 [1] iota_S64x128_d1_w32) k0_pay33 2#32 k0_pay34 k0_pay35 0#32 (ix2 g l)
      = inter A B g ⟨l.val, by omega⟩ := by
  have e : k0_pay36 (F := Ideal) A B (iota .tc S64x128 32 [1] iota_S64x128_d1_w32) k0_pay33 2#32 k0_pay34 k0_pay35 0#32 (ix2 g l)
      = Scalar.select (if l.val % 2 = 0 then 1#1 else 0#1) (A (ix2 g ⟨l.val / 2, by omega⟩)) (B (ix2 g ⟨l.val / 2, by omega⟩)) := by
    rw [← pay33_at g l]
    pointwise [k0_pay36, k0_pay34, k0_pay35]
    refine select_gather _ _ g rfl ?_ ?_ <;> (dsimp only; revert l; decide +kernel)
  rw [e, inter]
  by_cases h : l.val % 2 = 0
  · rw [if_pos h, if_pos h]; rfl
  · rw [if_neg h, if_neg h]; rfl

/-- The low 128 columns of the interleaving, as the last output has them. -/
theorem inter_lo' (A B : FVec Ideal S64x128 .f32) (g : Fin 64) (l : Fin 128) :
    k0_pay48 (F := Ideal) A B k0_pay44 k0_pay45 k0_pay46 k0_pay47 (ix2 g l) = inter A B g ⟨l.val, by omega⟩ := by
  have e : k0_pay48 (F := Ideal) A B k0_pay44 k0_pay45 k0_pay46 k0_pay47 (ix2 g l)
      = Scalar.select (if l.val % 2 = 0 then 1#1 else 0#1) (A (ix2 g ⟨l.val / 2, by omega⟩)) (B (ix2 g ⟨l.val / 2, by omega⟩)) := by
    rw [← pay44_at g l]
    pointwise [k0_pay48, k0_pay45, k0_pay46, k0_pay47]
    refine select_gather _ _ g rfl ?_ ?_ <;> (dsimp only; revert l; decide +kernel)
  rw [e, inter]
  by_cases h : l.val % 2 = 0
  · rw [if_pos h, if_pos h]; rfl
  · rw [if_neg h, if_neg h]; rfl

/-- The interleaved result as the first stored output has it (`y0`). -/
theorem inter_y0 (A B : FVec Ideal S64x128 .f32) (g : Fin 64) (s : Fin 256) :
    k0_pay39 (F := Ideal) A B (iota .tc S64x128 32 [1] iota_S64x128_d1_w32) k0_pay33
      (k0_pay36 A B (iota .tc S64x128 32 [1] iota_S64x128_d1_w32) k0_pay33 2#32 k0_pay34 k0_pay35 0#32) 2#32
      (k0_pay37 (iota .tc S64x128 32 [1] iota_S64x128_d1_w32)) (k0_pay38 (iota .tc S64x128 32 [1] iota_S64x128_d1_w32)) 1#32 0#32 (ix3 0 g s)
      = inter A B g s := by
  by_cases hs : s.val < 128
  · rw [← show inter A B g ⟨(⟨s.val, hs⟩ : Fin 128).val, by omega⟩ = inter A B g s from rfl, ← inter_lo A B g ⟨s.val, hs⟩]
    pointwise [k0_pay39]
    rw [dif_pos hs]
  · have e : ∀ l : Fin 128, l.val = s.val - 128 → k0_pay39 (F := Ideal) A B (iota .tc S64x128 32 [1] iota_S64x128_d1_w32) k0_pay33
        (k0_pay36 A B (iota .tc S64x128 32 [1] iota_S64x128_d1_w32) k0_pay33 2#32 k0_pay34 k0_pay35 0#32) 2#32
        (k0_pay37 (iota .tc S64x128 32 [1] iota_S64x128_d1_w32)) (k0_pay38 (iota .tc S64x128 32 [1] iota_S64x128_d1_w32)) 1#32 0#32 (ix3 0 g s)
        = Scalar.select (if l.val % 2 = 0 then 1#1 else 0#1) (A (ix2 g ⟨l.val / 2 + 64, by omega⟩)) (B (ix2 g ⟨l.val / 2 + 64, by omega⟩)) := by
      intro l hl
      rw [← pay33_at g l]
      pointwise [k0_pay39, k0_pay37, k0_pay38]
      rw [dif_neg hs]
      have es : (⟨s.val - 128, by omega⟩ : Fin 128) = l := Fin.ext hl.symm
      simp only [← hl]
      refine select_gather _ _ g rfl ?_ ?_ <;> (dsimp only; clear hl es; clear hs s; revert l; decide +kernel)
    rw [e ⟨s.val - 128, by omega⟩ rfl, inter]
    have hh : (⟨(s.val - 128) / 2 + 64, by omega⟩ : Fin 128) = ⟨s.val / 2, by omega⟩ := Fin.ext (by show (s.val - 128) / 2 + 64 = s.val / 2; omega)
    by_cases h : s.val % 2 = 0
    · rw [if_pos h, if_pos (by show (s.val - 128) % 2 = 0; omega), ← hh]; rfl
    · rw [if_neg h, if_neg (by show ¬ (s.val - 128) % 2 = 0; omega), ← hh]; rfl

/-- The interleaved result as the last stored output has it (`y`). -/
theorem inter_y (A B : FVec Ideal S64x128 .f32) (g : Fin 64) (s : Fin 256) :
    k0_pay1 (F := Ideal) A B k0_pay44 (k0_pay48 A B k0_pay44 k0_pay45 k0_pay46 k0_pay47)
      (k0_pay49 (iota .tc S64x128 32 [1] iota_S64x128_d1_w32)) (k0_pay50 (iota .tc S64x128 32 [1] iota_S64x128_d1_w32)) 1#32 (ix3 0 g s)
      = inter A B g s := by
  by_cases hs : s.val < 128
  · rw [← show inter A B g ⟨(⟨s.val, hs⟩ : Fin 128).val, by omega⟩ = inter A B g s from rfl, ← inter_lo' A B g ⟨s.val, hs⟩]
    pointwise [k0_pay1]
    rw [dif_pos hs]
  · have e : ∀ l : Fin 128, l.val = s.val - 128 → k0_pay1 (F := Ideal) A B k0_pay44 (k0_pay48 A B k0_pay44 k0_pay45 k0_pay46 k0_pay47)
        (k0_pay49 (iota .tc S64x128 32 [1] iota_S64x128_d1_w32)) (k0_pay50 (iota .tc S64x128 32 [1] iota_S64x128_d1_w32)) 1#32 (ix3 0 g s)
        = Scalar.select (if l.val % 2 = 0 then 1#1 else 0#1) (A (ix2 g ⟨l.val / 2 + 64, by omega⟩)) (B (ix2 g ⟨l.val / 2 + 64, by omega⟩)) := by
      intro l hl
      rw [← pay44_at g l]
      pointwise [k0_pay1, k0_pay49, k0_pay50]
      rw [dif_neg hs]
      simp only [← hl]
      refine select_gather _ _ g rfl ?_ ?_ <;> (dsimp only; clear hl; clear hs s; revert l; decide +kernel)
    rw [e ⟨s.val - 128, by omega⟩ rfl, inter]
    have hh : (⟨(s.val - 128) / 2 + 64, by omega⟩ : Fin 128) = ⟨s.val / 2, by omega⟩ := Fin.ext (by show (s.val - 128) / 2 + 64 = s.val / 2; omega)
    by_cases h : s.val % 2 = 0
    · rw [if_pos h, if_pos (by show (s.val - 128) % 2 = 0; omega), ← hh]; rfl
    · rw [if_neg h, if_neg (by show ¬ (s.val - 128) % 2 = 0; omega), ← hh]; rfl

end Cert.KernelIdeal.Val
end
-- ==== Proof.Scratch.lean ====
module
public import proofs.«01_k».proof.Proof.Lanes
public import proofs.«01_k».proof.Proof.Gen.KernelIdeal.Loops
public import Idealize.ShloMosaic.Lib.WholeRead
public import Idealize.ShloMosaic.Lib.Ring
public import Idealize.ShloMosaic.Lib.Tactic
public import Idealize.ShloMosaic.Lib.Pipeline.ReadBack
@[expose] public section
set_option maxRecDepth 16384

noncomputable section

namespace Cert.KernelIdeal.Val

open Cert.KernelIdeal Cert.KernelIdeal.Gen Idealize.ShloMosaic Idealize.ShloMosaic.TcCoe Idealize.ShloMosaic.Tactic
open Idealize.SL.Sem

/-! # What the kernel's loop leaves in its two scratch buffers -/

/-- The row a scratch column holds: the even rows first, then the odd ones. -/
def perm (c : Fin 256) : Fin 256 := ⟨2 * (c.val % 128) + c.val / 128, by omega⟩

/-- The code of column `k` out of a row of bytes: a low nibble in the first half of the columns, a high one in the second. -/
def nibAt (code : Fin 3584 → BitVec 8) (k : Fin 7168) : BitVec 32 :=
  if h : k.val < 3584 then nibLo (code ⟨k.val, h⟩) else nibHi (code ⟨k.val - 3584, by omega⟩)

/-- The error matrix of one batch entry, off the kernel's blocks. -/
def errBlk (x0 : Vec Ideal S1x256x7168 .bf16) (x1 : Vec Ideal S1x256x3584 .i8) (x2 : Vec Ideal S1x56x256 .f32) (s : Fin 256) (k : Fin 7168) : EReal :=
  err (x0 (ix3 0 s k)) (nibAt (fun q => x1 (ix3 0 s q)) k) (x2 (ix3 0 ⟨k.val / 128, by omega⟩ s))

/-- The first scratch buffer after the loop: row `c` is row `perm c` of the error matrix. -/
def scrE (x0 : Vec Ideal S1x256x7168 .bf16) (x1 : Vec Ideal S1x256x3584 .i8) (x2 : Vec Ideal S1x56x256 .f32) : S256x7168.Idx → EReal :=
  fun j => errBlk x0 x1 x2 (perm (j 0)) (j 1)

/-- The second, its transpose. -/
def scrT (x0 : Vec Ideal S1x256x7168 .bf16) (x1 : Vec Ideal S1x256x3584 .i8) (x2 : Vec Ideal S1x56x256 .f32) : S7168x256.Idx → EReal :=
  fun j => errBlk x0 x1 x2 (perm (j 1)) (j 0)

/-- A 128 × 128 tile placed at an offset is a tile of `G` when its elements are `G`'s there. -/
theorem tile_of {R C : ℕ} (T : S128x128.Idx → EReal) (G : (⟨2, ![R, C]⟩ : Shape).Idx → EReal) (off : Fin 2 → ℕ)
    (inb : ∀ a, off a + (![128, 128] : Fin 2 → ℕ) a ≤ (⟨2, ![R, C]⟩ : Shape).size a) (p q : ℕ) (h : off = ![p, q])
    (H : ∀ (a b : Fin 128) (A : Fin R) (B : Fin C), A.val = p + a.val → B.val = q + b.val → T (ix2 a b) = G (ix2 A B))
    (x : S128x128.Idx) : T x = G ((Rect.unit (s := ⟨2, ![R, C]⟩) off ![128, 128] inb).emb x) := by
  subst h
  have hp : p + (x 0).val < R := lt_of_lt_of_le (Nat.add_lt_add_left (x 0).isLt p) (inb 0)
  have hq : q + (x 1).val < C := lt_of_lt_of_le (Nat.add_lt_add_left (x 1).isLt q) (inb 1)
  have e : (Rect.unit (s := ⟨2, ![R, C]⟩) ![p, q] ![128, 128] inb).emb x = ix2 ⟨p + (x 0).val, hp⟩ ⟨q + (x 1).val, hq⟩ := by
    funext a
    match a with
    | ⟨0, _⟩ => exact Fin.ext (congrArg (p + ·) (Nat.one_mul _))
    | ⟨1, _⟩ => exact Fin.ext (congrArg (q + ·) (Nat.one_mul _))
  have ex : x = ix2 (x 0) (x 1) := by
    funext a
    match a with
    | ⟨0, _⟩ => rfl
    | ⟨1, _⟩ => rfl
  exact (congrArg T ex).trans ((H (x 0) (x 1) _ _ rfl rfl).trans (congrArg G e.symm))

/-- An element of the error matrix whose code is a low nibble. -/
theorem err_lo (x0 : Vec Ideal S1x256x7168 .bf16) (x1 : Vec Ideal S1x256x3584 .i8) (x2 : Vec Ideal S1x56x256 .f32) (s s' : Fin 256) (K : Fin 7168)
    (q : Fin 3584) (g : Fin 56) (hs : s = s') (hq : K.val = q.val) (hg : g.val = K.val / 128) {W : EReal} {n : BitVec 8} {Z : EReal}
    (hW : W = x0 (ix3 0 s' K)) (hN : n = x1 (ix3 0 s' q)) (hZ : Z = x2 (ix3 0 g s')) :
    err W (nibLo n) Z = errBlk x0 x1 x2 s K := by
  subst hs
  have hK : K.val < 3584 := hq ▸ q.isLt
  rw [errBlk, nibAt, dif_pos hK, hW, hN, hZ, show (⟨K.val, hK⟩ : Fin 3584) = q from Fin.ext hq, show g = ⟨K.val / 128, by omega⟩ from Fin.ext hg]

/-- … and one whose code is a high nibble. -/
theorem err_hi (x0 : Vec Ideal S1x256x7168 .bf16) (x1 : Vec Ideal S1x256x3584 .i8) (x2 : Vec Ideal S1x56x256 .f32) (s s' : Fin 256) (K : Fin 7168)
    (q : Fin 3584) (g : Fin 56) (hs : s = s') (hq : K.val = q.val + 3584) (hg : g.val = K.val / 128) {W : EReal} {n : BitVec 8} {Z : EReal}
    (hW : W = x0 (ix3 0 s' K)) (hN : n = x1 (ix3 0 s' q)) (hZ : Z = x2 (ix3 0 g s')) :
    err W (nibHi n) Z = errBlk x0 x1 x2 s K := by
  subst hs
  have hK : ¬ K.val < 3584 := by omega
  rw [errBlk, nibAt, dif_neg hK, hW, hN, hZ, show (⟨K.val - 3584, by omega⟩ : Fin 3584) = q from Fin.ext (by show K.val - 3584 = q.val; omega),
    show g = ⟨K.val / 128, by omega⟩ from Fin.ext hg]

/-- A column of the first half holds an even row. -/
theorem perm_even (A : Fin 256) (i : Fin 128) (h : A.val = 0 + i.val) : perm A = ⟨2 * i.val, by omega⟩ :=
  Fin.ext (by show 2 * (A.val % 128) + A.val / 128 = 2 * i.val; omega)

/-- A column of the second half holds an odd row. -/
theorem perm_odd (A : Fin 256) (i : Fin 128) (h : A.val = 128 + i.val) : perm A = ⟨2 * i.val + 1, by omega⟩ :=
  Fin.ext (by show 2 * (A.val % 128) + A.val / 128 = 2 * i.val + 1; omega)

/-- An element of the block of a whole buffer loaded at an offset. -/
theorem load3 {R C : ℕ} (off : Fin 3 → ℕ) (size : Fin 3 → ℕ) (inb : ∀ a, off a + size a ≤ (⟨3, ![1, R, C]⟩ : Shape).size a) (q : ℕ) (h : off = ![0, 0, q])
    (x : (Rect.unit (s := ⟨3, ![1, R, C]⟩) off size inb).shape.Idx) (a : Fin R) (b : Fin C) (h1 : (x 1).val = a.val) (h2 : q + (x 2).val = b.val) :
    (Rect.unit (s := ⟨3, ![1, R, C]⟩) off size inb).toLoadRect.idx x = ix3 0 a b := by
  subst h
  funext d
  match d with
  | ⟨0, _⟩ => exact Subsingleton.elim (α := Fin 1) _ _
  | ⟨1, _⟩ => exact Fin.ext ((congrArg (0 + ·) (Nat.one_mul _)).trans ((Nat.zero_add _).trans h1))
  | ⟨2, _⟩ => exact Fin.ext ((congrArg (q + ·) (Nat.one_mul _)).trans h2)

/-- An element of the row of a table loaded at an offset. -/
theorem load2 {R C : ℕ} (off : Fin 2 → ℕ) (size : Fin 2 → ℕ) (inb : ∀ a, off a + size a ≤ (⟨2, ![R, C]⟩ : Shape).size a) (p : ℕ) (h : off = ![p, 0])
    (x : (Rect.unit (s := ⟨2, ![R, C]⟩) off size inb).shape.Idx) (a : Fin R) (b : Fin C) (h1 : p + (x 0).val = a.val) (h2 : (x 1).val = b.val) :
    (Rect.unit (s := ⟨2, ![R, C]⟩) off size inb).toLoadRect.idx x = ix2 a b := by
  subst h
  funext d
  match d with
  | ⟨0, _⟩ => exact Fin.ext ((congrArg (p + ·) (Nat.one_mul _)).trans h1)
  | ⟨1, _⟩ => exact Fin.ext ((congrArg (0 + ·) (Nat.one_mul _)).trans ((Nat.zero_add _).trans h2))

/-- Two lists of tiles of `G`, one after the other. -/
theorem piecesOf_append {S : Shape} {e : EltTy} (G : S.Idx → Elt Ideal e) :
    ∀ L L' : List (View.Piece (Elt Ideal) S e), View.PiecesOf G L → View.PiecesOf G L' → View.PiecesOf G (L ++ L')
  | [], _, _, h' => h'
  | _ :: L, L', h, h' => ⟨h.1, piecesOf_append G L L' h.2 h'⟩

section
variable (𝒱 : Variants) (c : Dev nD) (bd : Option 𝒱.V) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S256x7168 .bf16) (harg8 : arg8.IsWhole) (arg9 : Memref sig .tc .vmem S7168x256 .bf16) (harg9 : arg9.IsWhole) (arg10 : Memref sig .tc .vmem S56x128 .f32) (harg10 : arg10.IsWhole) (arg11 : Memref sig .tc .vmem S56x128 .f32) (harg11 : arg11.IsWhole) (v80 : FVec Ideal S56x128 .f32)
  (x0 : Vec Ideal S1x256x7168 .bf16) (x1 : Vec Ideal S1x256x3584 .i8) (x2 : Vec Ideal S1x56x256 .f32)
  (X10 : BufTy.Contents (Elt Ideal) arg10.view.ty) (X11 : BufTy.Contents (Elt Ideal) arg11.view.ty)

set_option maxHeartbeats 2000000 in
/-- Every tile that trip `k` stores in the first scratch buffer is a tile of the error matrix. -/
theorem trip_e (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩))
    (k : Fin k0_t1_loop.trips) :
    View.PiecesOf (scrE x0 x1 x2) (tripL_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 k).1 := by
  have hk : k.val < 28 := k.isLt
  unfold tripL_k0_t1 trip_k0_t1
  dsimp only
  refine ⟨?_, ?_, ?_, ?_, trivial⟩
  · refine tile_of _ _ _ (k0_off7_inb k 1) 128 (128 * k.val + 3584 * 1) (k0_off7_eq k 1) fun a b A B hA hB => ?_
    refine (pay29_at _ _ _ b a).trans ?_
    have ha := a.isLt
    have hb := b.isLt
    refine err_hi x0 x1 x2 _ ⟨2 * a.val + 1, by omega⟩ B ⟨128 * k.val + b.val, by omega⟩ ⟨k.val + 28 * 1, by omega⟩ (perm_odd A a hA) (by show B.val = 128 * k.val + b.val + 3584; omega)
      (by show k.val + 28 * 1 = B.val / 128; omega) ?_ ?_ ?_
    · exact (harg1.readAt_unread x0 _ _).trans (congrArg x0 (load3 _ _ _ (128 * k.val + 3584 * 1) (k0_off2_eq k 1) _ _ _ rfl hB.symm))
    · exact (harg2.readAt_unread x1 _ _).trans (congrArg x1 (load3 _ _ _ (128 * k.val) (k0_off1_eq k) _ _ _ rfl rfl))
    · exact (congrArg (arg11.view.read (Elt Ideal) X11) (load2 _ _ _ (k.val + 28 * 1) (k0_off3_eq k 1) _ ⟨k.val + 28 * 1, by omega⟩ a rfl rfl)).trans (h11 _ _)
  · refine tile_of _ _ _ (k0_off5_inb k 1) 0 (128 * k.val + 3584 * 1) (k0_off5_eq k 1) fun a b A B hA hB => ?_
    refine (pay26_at _ _ _ b a).trans ?_
    have ha := a.isLt
    have hb := b.isLt
    refine err_hi x0 x1 x2 _ ⟨2 * a.val, by omega⟩ B ⟨128 * k.val + b.val, by omega⟩ ⟨k.val + 28 * 1, by omega⟩ (perm_even A a hA) (by show B.val = 128 * k.val + b.val + 3584; omega)
      (by show k.val + 28 * 1 = B.val / 128; omega) ?_ ?_ ?_
    · exact (harg1.readAt_unread x0 _ _).trans (congrArg x0 (load3 _ _ _ (128 * k.val + 3584 * 1) (k0_off2_eq k 1) _ _ _ rfl hB.symm))
    · exact (harg2.readAt_unread x1 _ _).trans (congrArg x1 (load3 _ _ _ (128 * k.val) (k0_off1_eq k) _ _ _ rfl rfl))
    · exact (congrArg (arg10.view.read (Elt Ideal) X10) (load2 _ _ _ (k.val + 28 * 1) (k0_off3_eq k 1) _ ⟨k.val + 28 * 1, by omega⟩ a rfl rfl)).trans (h10 _ _)
  · refine tile_of _ _ _ (k0_off7_inb k 0) 128 (128 * k.val + 3584 * 0) (k0_off7_eq k 0) fun a b A B hA hB => ?_
    refine (pay10_at _ _ _ b a).trans ?_
    have ha := a.isLt
    have hb := b.isLt
    refine err_lo x0 x1 x2 _ ⟨2 * a.val + 1, by omega⟩ B ⟨128 * k.val + b.val, by omega⟩ ⟨k.val + 28 * 0, by omega⟩ (perm_odd A a hA) (by show B.val = 128 * k.val + b.val; omega)
      (by show k.val + 28 * 0 = B.val / 128; omega) ?_ ?_ ?_
    · exact (harg1.readAt_unread x0 _ _).trans (congrArg x0 (load3 _ _ _ (128 * k.val + 3584 * 0) (k0_off2_eq k 0) _ _ _ rfl hB.symm))
    · exact (harg2.readAt_unread x1 _ _).trans (congrArg x1 (load3 _ _ _ (128 * k.val) (k0_off1_eq k) _ _ _ rfl rfl))
    · exact (congrArg (arg11.view.read (Elt Ideal) X11) (load2 _ _ _ (k.val + 28 * 0) (k0_off3_eq k 0) _ ⟨k.val + 28 * 0, by omega⟩ a rfl rfl)).trans (h11 _ _)
  · refine tile_of _ _ _ (k0_off5_inb k 0) 0 (128 * k.val + 3584 * 0) (k0_off5_eq k 0) fun a b A B hA hB => ?_
    refine (pay7_at _ _ _ b a).trans ?_
    have ha := a.isLt
    have hb := b.isLt
    refine err_lo x0 x1 x2 _ ⟨2 * a.val, by omega⟩ B ⟨128 * k.val + b.val, by omega⟩ ⟨k.val + 28 * 0, by omega⟩ (perm_even A a hA) (by show B.val = 128 * k.val + b.val; omega)
      (by show k.val + 28 * 0 = B.val / 128; omega) ?_ ?_ ?_
    · exact (harg1.readAt_unread x0 _ _).trans (congrArg x0 (load3 _ _ _ (128 * k.val + 3584 * 0) (k0_off2_eq k 0) _ _ _ rfl hB.symm))
    · exact (harg2.readAt_unread x1 _ _).trans (congrArg x1 (load3 _ _ _ (128 * k.val) (k0_off1_eq k) _ _ _ rfl rfl))
    · exact (congrArg (arg10.view.read (Elt Ideal) X10) (load2 _ _ _ (k.val + 28 * 0) (k0_off3_eq k 0) _ ⟨k.val + 28 * 0, by omega⟩ a rfl rfl)).trans (h10 _ _)

set_option maxHeartbeats 2000000 in
/-- Every tile that trip `k` stores in the second scratch buffer is a tile of its transpose. -/
theorem trip_t (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩))
    (k : Fin k0_t1_loop.trips) :
    View.PiecesOf (scrT x0 x1 x2) (tripL_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 k).2 := by
  have hk : k.val < 28 := k.isLt
  unfold tripL_k0_t1 trip_k0_t1
  dsimp only
  refine ⟨?_, ?_, ?_, ?_, trivial⟩
  · refine tile_of _ _ _ (k0_off6_inb k 1) (128 * k.val + 3584 * 1) 128 (k0_off6_eq k 1) fun a b A B hA hB => ?_
    refine (pay28_at _ _ _ a b).trans ?_
    have ha := a.isLt
    have hb := b.isLt
    refine err_hi x0 x1 x2 _ ⟨2 * b.val + 1, by omega⟩ A ⟨128 * k.val + a.val, by omega⟩ ⟨k.val + 28 * 1, by omega⟩ (perm_odd B b hB) (by show A.val = 128 * k.val + a.val + 3584; omega)
      (by show k.val + 28 * 1 = A.val / 128; omega) ?_ ?_ ?_
    · exact (harg1.readAt_unread x0 _ _).trans (congrArg x0 (load3 _ _ _ (128 * k.val + 3584 * 1) (k0_off2_eq k 1) _ _ _ rfl hA.symm))
    · exact (harg2.readAt_unread x1 _ _).trans (congrArg x1 (load3 _ _ _ (128 * k.val) (k0_off1_eq k) _ _ _ rfl rfl))
    · exact (congrArg (arg11.view.read (Elt Ideal) X11) (load2 _ _ _ (k.val + 28 * 1) (k0_off3_eq k 1) _ ⟨k.val + 28 * 1, by omega⟩ b rfl rfl)).trans (h11 _ _)
  · refine tile_of _ _ _ (k0_off4_inb k 1) (128 * k.val + 3584 * 1) 0 (k0_off4_eq k 1) fun a b A B hA hB => ?_
    refine (pay25_at _ _ _ a b).trans ?_
    have ha := a.isLt
    have hb := b.isLt
    refine err_hi x0 x1 x2 _ ⟨2 * b.val, by omega⟩ A ⟨128 * k.val + a.val, by omega⟩ ⟨k.val + 28 * 1, by omega⟩ (perm_even B b hB) (by show A.val = 128 * k.val + a.val + 3584; omega)
      (by show k.val + 28 * 1 = A.val / 128; omega) ?_ ?_ ?_
    · exact (harg1.readAt_unread x0 _ _).trans (congrArg x0 (load3 _ _ _ (128 * k.val + 3584 * 1) (k0_off2_eq k 1) _ _ _ rfl hA.symm))
    · exact (harg2.readAt_unread x1 _ _).trans (congrArg x1 (load3 _ _ _ (128 * k.val) (k0_off1_eq k) _ _ _ rfl rfl))
    · exact (congrArg (arg10.view.read (Elt Ideal) X10) (load2 _ _ _ (k.val + 28 * 1) (k0_off3_eq k 1) _ ⟨k.val + 28 * 1, by omega⟩ b rfl rfl)).trans (h10 _ _)
  · refine tile_of _ _ _ (k0_off6_inb k 0) (128 * k.val + 3584 * 0) 128 (k0_off6_eq k 0) fun a b A B hA hB => ?_
    refine (pay9_at _ _ _ a b).trans ?_
    have ha := a.isLt
    have hb := b.isLt
    refine err_lo x0 x1 x2 _ ⟨2 * b.val + 1, by omega⟩ A ⟨128 * k.val + a.val, by omega⟩ ⟨k.val + 28 * 0, by omega⟩ (perm_odd B b hB) (by show A.val = 128 * k.val + a.val; omega)
      (by show k.val + 28 * 0 = A.val / 128; omega) ?_ ?_ ?_
    · exact (harg1.readAt_unread x0 _ _).trans (congrArg x0 (load3 _ _ _ (128 * k.val + 3584 * 0) (k0_off2_eq k 0) _ _ _ rfl hA.symm))
    · exact (harg2.readAt_unread x1 _ _).trans (congrArg x1 (load3 _ _ _ (128 * k.val) (k0_off1_eq k) _ _ _ rfl rfl))
    · exact (congrArg (arg11.view.read (Elt Ideal) X11) (load2 _ _ _ (k.val + 28 * 0) (k0_off3_eq k 0) _ ⟨k.val + 28 * 0, by omega⟩ b rfl rfl)).trans (h11 _ _)
  · refine tile_of _ _ _ (k0_off4_inb k 0) (128 * k.val + 3584 * 0) 0 (k0_off4_eq k 0) fun a b A B hA hB => ?_
    refine (pay6_at _ _ _ a b).trans ?_
    have ha := a.isLt
    have hb := b.isLt
    refine err_lo x0 x1 x2 _ ⟨2 * b.val, by omega⟩ A ⟨128 * k.val + a.val, by omega⟩ ⟨k.val + 28 * 0, by omega⟩ (perm_even B b hB) (by show A.val = 128 * k.val + a.val; omega)
      (by show k.val + 28 * 0 = A.val / 128; omega) ?_ ?_ ?_
    · exact (harg1.readAt_unread x0 _ _).trans (congrArg x0 (load3 _ _ _ (128 * k.val + 3584 * 0) (k0_off2_eq k 0) _ _ _ rfl hA.symm))
    · exact (harg2.readAt_unread x1 _ _).trans (congrArg x1 (load3 _ _ _ (128 * k.val) (k0_off1_eq k) _ _ _ rfl rfl))
    · exact (congrArg (arg10.view.read (Elt Ideal) X10) (load2 _ _ _ (k.val + 28 * 0) (k0_off3_eq k 0) _ ⟨k.val + 28 * 0, by omega⟩ b rfl rfl)).trans (h10 _ _)

/-- So is every tile the loop has stored there after any number of trips. -/
theorem loop_e (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩)) :
    ∀ n ≤ k0_t1_loop.trips, View.PiecesOf (scrE x0 x1 x2) (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 n).1
  | 0, _ => by rw [pb_k0_t1.eq_1]; trivial
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 ⟨n, hn⟩
    rw [show n + 1 = (⟨n, hn⟩ : Fin k0_t1_loop.trips).val + 1 from rfl, e]
    exact piecesOf_append _ _ _ (trip_e 𝒱 c bd i arg1 harg1 arg2 harg2 arg3 harg3 arg4 harg4 arg5 harg5 arg6 harg6 arg7 harg7 arg8 harg8 arg9 harg9 arg10 harg10 arg11 harg11 v80 x0 x1 x2 X10 X11 h10 h11 ⟨n, hn⟩) (loop_e h10 h11 n (Nat.le_of_succ_le hn))

set_option maxHeartbeats 2000000 in
/-- The whole buffer read back after the loop. -/
theorem read_e (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩)) (inb : ∀ a, (![0, 0] : Fin 2 → ℕ) a + (![256, 7168] : Fin 2 → ℕ) a ≤ S256x7168.size a) :
    arg8.view.readCov (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 (Scf.trips k0_t1_loop.lb k0_t1_loop.ub k0_t1_loop.st)).1 (Rect.unit (s := S256x7168) ![0, 0] ![256, 7168] inb).toLoadRect
      = scrE x0 x1 x2 := by
  have hc := View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 (Scf.trips k0_t1_loop.lb k0_t1_loop.ub k0_t1_loop.st)).1 S128x128.size (by sl_kernel_rfl)
  have hp := loop_e 𝒱 c bd i arg1 harg1 arg2 harg2 arg3 harg3 arg4 harg4 arg5 harg5 arg6 harg6 arg7 harg7 arg8 harg8 arg9 harg9 arg10 harg10 arg11 harg11 v80 x0 x1 x2 X10 X11 h10 h11 _ (Nat.le_refl k0_t1_loop.trips)
  refine (View.readCov_eq_canon_ld _ _ _ hc).trans ((congrArg (fun X => View.ld X _) (funext fun y => View.canon_apply_of_pieces (scrE x0 x1 x2) _ hp.mem y (hc y))).trans ?_)
  exact View.ld_unit_zero (S := S256x7168) (by funext a; match a with | ⟨0, _⟩ => rfl | ⟨1, _⟩ => rfl) _ _

/-- So is every tile the loop has stored there after any number of trips. -/
theorem loop_t (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩)) :
    ∀ n ≤ k0_t1_loop.trips, View.PiecesOf (scrT x0 x1 x2) (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 n).2
  | 0, _ => by rw [pb_k0_t1.eq_1]; trivial
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 ⟨n, hn⟩
    rw [show n + 1 = (⟨n, hn⟩ : Fin k0_t1_loop.trips).val + 1 from rfl, e]
    exact piecesOf_append _ _ _ (trip_t 𝒱 c bd i arg1 harg1 arg2 harg2 arg3 harg3 arg4 harg4 arg5 harg5 arg6 harg6 arg7 harg7 arg8 harg8 arg9 harg9 arg10 harg10 arg11 harg11 v80 x0 x1 x2 X10 X11 h10 h11 ⟨n, hn⟩) (loop_t h10 h11 n (Nat.le_of_succ_le hn))

set_option maxHeartbeats 2000000 in
/-- The whole buffer read back after the loop. -/
theorem read_t (h10 : ∀ g l, arg10.view.read (Elt Ideal) X10 (ix2 g l) = x2 (ix3 0 g ⟨2 * l.val, by omega⟩))
    (h11 : ∀ g l, arg11.view.read (Elt Ideal) X11 (ix2 g l) = x2 (ix3 0 g ⟨2 * l.val + 1, by omega⟩)) (inb : ∀ a, (![0, 0] : Fin 2 → ℕ) a + (![7168, 256] : Fin 2 → ℕ) a ≤ S7168x256.size a) :
    arg9.view.readCov (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 (Scf.trips k0_t1_loop.lb k0_t1_loop.ub k0_t1_loop.st)).2 (Rect.unit (s := S7168x256) ![0, 0] ![7168, 256] inb).toLoadRect
      = scrT x0 x1 x2 := by
  have hc := View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 v80 (harg1.unread x0) (harg2.unread x1) X10 X11 (Scf.trips k0_t1_loop.lb k0_t1_loop.ub k0_t1_loop.st)).2 S128x128.size (by sl_kernel_rfl)
  have hp := loop_t 𝒱 c bd i arg1 harg1 arg2 harg2 arg3 harg3 arg4 harg4 arg5 harg5 arg6 harg6 arg7 harg7 arg8 harg8 arg9 harg9 arg10 harg10 arg11 harg11 v80 x0 x1 x2 X10 X11 h10 h11 _ (Nat.le_refl k0_t1_loop.trips)
  refine (View.readCov_eq_canon_ld _ _ _ hc).trans ((congrArg (fun X => View.ld X _) (funext fun y => View.canon_apply_of_pieces (scrT x0 x1 x2) _ hp.mem y (hc y))).trans ?_)
  exact View.ld_unit_zero (S := S7168x256) (by funext a; match a with | ⟨0, _⟩ => rfl | ⟨1, _⟩ => rfl) _ _

end

end Cert.KernelIdeal.Val
end
-- ==== Proof.Power.lean ====
module
public import proofs.«01_k».proof.Proof.Scratch
@[expose] public section
set_option maxRecDepth 16384

noncomputable section

namespace Cert.KernelIdeal.Val

open Cert.KernelIdeal Cert.KernelIdeal.Gen Idealize.ShloMosaic Idealize.ShloMosaic.TcCoe Idealize.ShloMosaic.Tactic

/-! # The products of the kernel's body, over the permuted rows -/

/-- `P Eᵀ`: each of 64 rows against each row of the error matrix. -/
def right (P : Fin 64 → Fin 7168 → EReal) (E : Fin 256 → Fin 7168 → EReal) (r : Fin 64) (s : Fin 256) : EReal := ∑ k, P r k * E s k
/-- `Y E`: each of 64 rows against each column of the error matrix. -/
def left (Y : Fin 64 → Fin 256 → EReal) (E : Fin 256 → Fin 7168 → EReal) (r : Fin 64) (k : Fin 7168) : EReal := ∑ s, Y r s * E s k
/-- One power iteration. -/
def iter (Y : Fin 64 → Fin 256 → EReal) (E : Fin 256 → Fin 7168 → EReal) : Fin 64 → Fin 256 → EReal := right (left Y E) E

/-- `perm` and its inverse. -/
def permEquiv : Fin 256 ≃ Fin 256 where
  toFun := perm
  invFun s := ⟨s.val % 2 * 128 + s.val / 2, by omega⟩
  left_inv c := Fin.ext (by show (2 * (c.val % 128) + c.val / 128) % 2 * 128 + (2 * (c.val % 128) + c.val / 128) / 2 = c.val; omega)
  right_inv s := Fin.ext (by show 2 * ((s.val % 2 * 128 + s.val / 2) % 128) + (s.val % 2 * 128 + s.val / 2) / 128 = s.val; omega)

/-- A sum over the rows in the permuted order is the sum over the rows. -/
theorem sum_perm (f : Fin 256 → EReal) : ∑ c, f (perm c) = ∑ s, f s := Equiv.sum_comp permEquiv f

variable (x0 : Vec Ideal S1x256x7168 .bf16) (x1 : Vec Ideal S1x256x3584 .i8) (x2 : Vec Ideal S1x56x256 .f32)

/-- The first product: the test matrix against the rows of the error matrix. -/
theorem pay30_at (om : Vec Ideal S1x64x7168 .bf16) (r : Fin 64) (c : Fin 256) :
    k0_pay30 (F := Ideal) om (scrT x0 x1 x2) (ix2 r c) = right (fun r k => om (ix3 0 r k)) (errBlk x0 x1 x2) r (perm c) := by
  pointwise [k0_pay30]
  rfl

/-- A sum over the permuted columns of `y` and the permuted rows of the error matrix. -/
theorem sum_left (y : (⟨2, ![64, 256]⟩ : Shape).Idx → EReal) (Y : Fin 64 → Fin 256 → EReal) (hy : ∀ r c, y (ix2 r c) = Y r (perm c)) (r : Fin 64) (k : Fin 7168) :
    (∑ c, y (ix2 r c) * scrE x0 x1 x2 (ix2 c k)) = left Y (errBlk x0 x1 x2) r k :=
  (Finset.sum_congr rfl fun c _ => congrArg (· * _) (hy r c)).trans (sum_perm fun s => Y r s * errBlk x0 x1 x2 s k)

/-- One power iteration on a `y` whose columns are permuted. -/
theorem pay40_at (y : FVec Ideal S64x256 .f32) (Y : Fin 64 → Fin 256 → EReal) (hy : ∀ r c, y (ix2 r c) = Y r (perm c)) (r : Fin 64) (c : Fin 256) :
    k0_pay40 (F := Ideal) y (scrE x0 x1 x2) (scrT x0 x1 x2) (ix2 r c) = iter Y (errBlk x0 x1 x2) r (perm c) := by
  pointwise [k0_pay40]
  exact Finset.sum_congr rfl fun k _ => congrArg (· * _) (sum_left x0 x1 x2 y Y hy r k)

/-- The second power iteration, whose `y` is already rounded to bf16. -/
theorem pay41_at (y : FVec Ideal S64x256 .bf16) (Y : Fin 64 → Fin 256 → EReal) (hy : ∀ r c, y (ix2 r c) = Y r (perm c)) (r : Fin 64) (c : Fin 256) :
    k0_pay41 (F := Ideal) y (scrE x0 x1 x2) (scrT x0 x1 x2) (ix2 r c) = iter Y (errBlk x0 x1 x2) r (perm c) := by
  pointwise [k0_pay41]
  exact Finset.sum_congr rfl fun k _ => congrArg (· * _) (sum_left x0 x1 x2 y Y hy r k)

/-- The last product, of the permuted `y` and the error matrix. -/
theorem pay2_at (y : FVec Ideal S64x256 .f32) (Y : Fin 64 → Fin 256 → EReal) (hy : ∀ r c, y (ix2 r c) = Y r (perm c)) (r : Fin 64) (k : Fin 7168) :
    k0_pay2 (F := Ideal) y (scrE x0 x1 x2) (ix3 0 r k) = left Y (errBlk x0 x1 x2) r k := by
  pointwise [k0_pay2]
  exact sum_left x0 x1 x2 y Y hy r k

/-- The two halves of a permuted `y`, interleaved, are `Y`. -/
theorem inter_perm (A B : FVec Ideal S64x128 .f32) (Y : Fin 64 → Fin 256 → EReal)
    (hA : ∀ r (l : Fin 128), A (ix2 r l) = Y r (perm ⟨l.val, by omega⟩)) (hB : ∀ r (l : Fin 128), B (ix2 r l) = Y r (perm ⟨128 + l.val, by omega⟩))
    (r : Fin 64) (s : Fin 256) : inter A B r s = Y r s := by
  unfold inter
  by_cases h : s.val % 2 = 0
  · rw [if_pos h, hA]
    exact congrArg (Y r) (Fin.ext (by show 2 * (s.val / 2 % 128) + s.val / 2 / 128 = s.val; omega))
  · rw [if_neg h, hB]
    exact congrArg (Y r) (Fin.ext (by show 2 * ((128 + s.val / 2) % 128) + (128 + s.val / 2) / 128 = s.val; omega))

/-- The first product's low 128 columns, the even rows. -/
theorem pay31_at (om : Vec Ideal S1x64x7168 .bf16) (e : Vec Ideal S7168x256 .bf16) (r : Fin 64) (l : Fin 128) :
    k0_pay31 (F := Ideal) om e (ix2 r l) = k0_pay30 om e (ix2 r ⟨l.val, by omega⟩) := by pointwise [k0_pay31]

/-- The first product's high 128 columns, the odd rows. -/
theorem pay32_at (om : Vec Ideal S1x64x7168 .bf16) (e : Vec Ideal S7168x256 .bf16) (r : Fin 64) (l : Fin 128) :
    k0_pay32 (F := Ideal) om e (ix2 r l) = k0_pay30 om e (ix2 r ⟨128 + l.val, by omega⟩) := by pointwise [k0_pay32]

/-- The last `y`'s low 128 columns, the even rows. -/
theorem pay42_at (y : FVec Ideal S64x256 .bf16) (e : Vec Ideal S256x7168 .bf16) (t : Vec Ideal S7168x256 .bf16) (r : Fin 64) (l : Fin 128) :
    k0_pay42 (F := Ideal) y e t (ix2 r l) = k0_pay41 y e t (ix2 r ⟨l.val, by omega⟩) := by pointwise [k0_pay42]

/-- The last `y`'s high 128 columns, the odd rows. -/
theorem pay43_at (y : FVec Ideal S64x256 .bf16) (e : Vec Ideal S256x7168 .bf16) (t : Vec Ideal S7168x256 .bf16) (r : Fin 64) (l : Fin 128) :
    k0_pay43 (F := Ideal) y e t (ix2 r l) = k0_pay41 y e t (ix2 r ⟨128 + l.val, by omega⟩) := by pointwise [k0_pay43]

end Cert.KernelIdeal.Val
end
-- ==== Proof.Body.lean ====
module
public import proofs.«01_k».proof.Proof.Gen.KernelIdeal.Frame
public import proofs.«01_k».proof.Proof.Power
@[expose] public section
set_option maxRecDepth 16384

noncomputable section

namespace Cert.KernelIdeal.Val

open Cert.KernelIdeal Cert.KernelIdeal.Gen Idealize.ShloMosaic Idealize.ShloMosaic.TcCoe Idealize.ShloMosaic.Tactic
open Idealize.SL.Sem

/-! # What one grid point leaves in the kernel's three outputs -/

/-- A whole buffer of rank 3 loaded at its own shape. -/
theorem load_whole3 {n m k : ℕ} {e : EltTy} (X : (⟨3, ![n, m, k]⟩ : Shape).Idx → Elt Ideal e)
    (inb : ∀ a, (![0, 0, 0] : Fin 3 → ℕ) a + (![n, m, k] : Fin 3 → ℕ) a ≤ (⟨3, ![n, m, k]⟩ : Shape).size a) :
    (fun x => X ((Rect.unit (s := ⟨3, ![n, m, k]⟩) ![0, 0, 0] ![n, m, k] inb).toLoadRect.idx x)) = X :=
  View.ld_unit_zero (S := ⟨3, ![n, m, k]⟩) (by funext a; match a with | ⟨0, _⟩ => rfl | ⟨1, _⟩ => rfl | ⟨2, _⟩ => rfl) inb X

/-- The one store of a whole buffer of rank 3 leaves its payload. -/
theorem canon_whole3 {n m k : ℕ} {e : EltTy} (X : (⟨3, ![n, m, k]⟩ : Shape).Idx → Elt Ideal e)
    (inb : ∀ a, (![0, 0, 0] : Fin 3 → ℕ) a + (![n, m, k] : Fin 3 → ℕ) a ≤ (⟨3, ![n, m, k]⟩ : Shape).size a) :
    View.canon [(⟨Rect.unit (s := ⟨3, ![n, m, k]⟩) ![0, 0, 0] ![n, m, k] inb, X⟩ : View.Piece (Elt Ideal) ⟨3, ![n, m, k]⟩ e)] = X :=
  View.canon_unit_zero (S := ⟨3, ![n, m, k]⟩) (by funext a; match a with | ⟨0, _⟩ => rfl | ⟨1, _⟩ => rfl | ⟨2, _⟩ => rfl) inb X

/-- The one store of a whole buffer of rank 2 leaves its payload. -/
theorem canon_whole2 {n m : ℕ} {e : EltTy} (X : (⟨2, ![n, m]⟩ : Shape).Idx → Elt Ideal e)
    (inb : ∀ a, (![0, 0] : Fin 2 → ℕ) a + (![n, m] : Fin 2 → ℕ) a ≤ (⟨2, ![n, m]⟩ : Shape).size a) :
    View.canon [(⟨Rect.unit (s := ⟨2, ![n, m]⟩) ![0, 0] ![n, m] inb, X⟩ : View.Piece (Elt Ideal) ⟨2, ![n, m]⟩ e)] = X :=
  View.canon_unit_zero (S := ⟨2, ![n, m]⟩) (by funext a; match a with | ⟨0, _⟩ => rfl | ⟨1, _⟩ => rfl) inb X

variable (c : Dev nD) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S256x7168 .bf16) (harg8 : arg8.IsWhole) (arg9 : Memref sig .tc .vmem S7168x256 .bf16) (harg9 : arg9.IsWhole) (arg10 : Memref sig .tc .vmem S56x128 .f32) (harg10 : arg10.IsWhole) (arg11 : Memref sig .tc .vmem S56x128 .f32) (harg11 : arg11.IsWhole)
  (x0 : Vec Ideal S1x256x7168 .bf16) (x1 : Vec Ideal S1x256x3584 .i8) (x2 : Vec Ideal S1x56x256 .f32) (x3 : Vec Ideal S1x64x7168 .bf16)
open kernelRun0_A

/-- The scales' scratch buffers as the body fills them: the even rows' scales, -/
theorem scr10 (g : Fin 56) (l : Fin 128) :
    arg10.view.read (Elt Ideal) (arg10.view.writes (Elt Ideal) arg10.view.junk (sl.HS2_1 c arg3 harg3 x2)) (ix2 g l) = x2 (ix3 0 g ⟨2 * l.val, by omega⟩) := by
  unfold sl.HS2_1
  rw [View.read_writes_junk_eq_canon]
  refine (congrFun (canon_whole2 _ _) (ix2 g l)).trans ?_
  refine Eq.trans ?_ (sev_at x2 g l)
  have hx : (fun x => x2 ((Rect.unit (s := S1x56x256) ![0, 0, 0] ![1, 56, 256] inb_S1x56x256_S1x56x256_0_0_0).toLoadRect.idx x)) = x2 := load_whole3 x2 _
  rw [← funext fun x => harg3.readAt_unread x2 _ x] at hx
  unfold sl.r_2 sl.r_3
  rw [hx]

/-- … and the odd rows'. -/
theorem scr11 (g : Fin 56) (l : Fin 128) :
    arg11.view.read (Elt Ideal) (arg11.view.writes (Elt Ideal) arg11.view.junk (sl.HS3_1 c arg3 harg3 x2)) (ix2 g l) = x2 (ix3 0 g ⟨2 * l.val + 1, by omega⟩) := by
  unfold sl.HS3_1
  rw [View.read_writes_junk_eq_canon]
  refine (congrFun (canon_whole2 _ _) (ix2 g l)).trans ?_
  refine Eq.trans ?_ (sod_at x2 g l)
  have hx : (fun x => x2 ((Rect.unit (s := S1x56x256) ![0, 0, 0] ![1, 56, 256] inb_S1x56x256_S1x56x256_0_0_0).toLoadRect.idx x)) = x2 := load_whole3 x2 _
  rw [← funext fun x => harg3.readAt_unread x2 _ x] at hx
  unfold sl.r_4 sl.r sl.r_1
  rw [hx]
  rfl

/-- The first product of the body. -/
abbrev bY0 : FVec Ideal S64x256 .f32 := k0_pay30 x3 (scrT x0 x1 x2)
/-- The body's first power iteration. -/
abbrev bY1 : FVec Ideal S64x256 .bf16 := k0_pay40 (bY0 x0 x1 x2 x3) (scrE x0 x1 x2) (scrT x0 x1 x2)

/-- The body's second power iteration. -/
abbrev bY2 : FVec Ideal S64x256 .f32 := k0_pay41 (bY1 x0 x1 x2 x3) (scrE x0 x1 x2) (scrT x0 x1 x2)

/-- The first output, as the body stores it. -/
theorem out4 : out0_A_4 c i arg1 harg1 arg2 harg2 arg3 harg3 arg4 harg4 arg5 harg5 arg6 harg6 arg7 harg7 arg8 harg8 arg9 harg9 arg10 harg10 arg11 harg11 x0 x1 x2 x3 =
    k0_pay1 (k0_pay42 (bY1 x0 x1 x2 x3) (scrE x0 x1 x2) (scrT x0 x1 x2)) (k0_pay43 (bY1 x0 x1 x2 x3) (scrE x0 x1 x2) (scrT x0 x1 x2)) k0_pay44
      (k0_pay48 (k0_pay42 (bY1 x0 x1 x2 x3) (scrE x0 x1 x2) (scrT x0 x1 x2)) (k0_pay43 (bY1 x0 x1 x2 x3) (scrE x0 x1 x2) (scrT x0 x1 x2)) k0_pay44 k0_pay45 k0_pay46 k0_pay47)
      (k0_pay49 (iota .tc S64x128 32 [1] iota_S64x128_d1_w32)) (k0_pay50 (iota .tc S64x128 32 [1] iota_S64x128_d1_w32)) 1#32 := by
  unfold out0_A_4 kernelRun0_A
  dsimp only
  unfold sl.r_13 sl.r_11 sl.r_12 sl.r_9 sl.r_5
  have he := read_e Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ht := read_t Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ho : (fun x => x3 ((Rect.unit (s := S1x64x7168) ![0, 0, 0] ![1, 64, 7168] inb_S1x64x7168_S1x64x7168_0_0_0).toLoadRect.idx x)) = x3 := load_whole3 x3 _
  rw [← funext fun x => harg4.readAt_unread x3 _ x] at ho
  rw [he, ht, ho, View.read_writes_junk_eq_canon]
  exact canon_whole3 _ _

/-- The second output, as the body stores it. -/
theorem out5 : out0_A_5 c i arg1 harg1 arg2 harg2 arg3 harg3 arg4 harg4 arg5 harg5 arg6 harg6 arg7 harg7 arg8 harg8 arg9 harg9 arg10 harg10 arg11 harg11 x0 x1 x2 x3 = k0_pay2 (bY2 x0 x1 x2 x3) (scrE x0 x1 x2) := by
  unfold out0_A_5 kernelRun0_A
  dsimp only
  unfold sl.r_10 sl.r_9 sl.r_5
  have he := read_e Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ht := read_t Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ho : (fun x => x3 ((Rect.unit (s := S1x64x7168) ![0, 0, 0] ![1, 64, 7168] inb_S1x64x7168_S1x64x7168_0_0_0).toLoadRect.idx x)) = x3 := load_whole3 x3 _
  rw [← funext fun x => harg4.readAt_unread x3 _ x] at ho
  rw [he, ht, ho, View.read_writes_junk_eq_canon]
  exact canon_whole3 _ _

/-- The third output, as the body stores it. -/
theorem out6 : out0_A_6 c i arg1 harg1 arg2 harg2 arg3 harg3 arg4 harg4 arg5 harg5 arg6 harg6 arg7 harg7 arg8 harg8 arg9 harg9 arg10 harg10 arg11 harg11 x0 x1 x2 x3 =
    k0_pay39 (k0_pay31 x3 (scrT x0 x1 x2)) (k0_pay32 x3 (scrT x0 x1 x2)) (iota .tc S64x128 32 [1] iota_S64x128_d1_w32) k0_pay33
      (k0_pay36 (k0_pay31 x3 (scrT x0 x1 x2)) (k0_pay32 x3 (scrT x0 x1 x2)) (iota .tc S64x128 32 [1] iota_S64x128_d1_w32) k0_pay33 2#32 k0_pay34 k0_pay35 0#32) 2#32
      (k0_pay37 (iota .tc S64x128 32 [1] iota_S64x128_d1_w32)) (k0_pay38 (iota .tc S64x128 32 [1] iota_S64x128_d1_w32)) 1#32 0#32 := by
  unfold out0_A_6 kernelRun0_A
  dsimp only
  unfold sl.r_8 sl.r_6 sl.r_7
  have he := read_e Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ht := read_t Variants.none c none i arg1 harg1 arg2 harg2 arg3 harg3 arg4 harg4 arg5 harg5 arg6 harg6 arg7 harg7 arg8 harg8 arg9 harg9 arg10 harg10 arg11 harg11 (sl.r_4 c arg3 harg3 x2) x0 x1 x2 _ _ (scr10 c arg3 harg3 arg10 x2) (scr11 c arg3 harg3 arg11 x2)
  have ho : (fun x => x3 ((Rect.unit (s := S1x64x7168) ![0, 0, 0] ![1, 64, 7168] inb_S1x64x7168_S1x64x7168_0_0_0).toLoadRect.idx x)) = x3 := load_whole3 x3 _
  rw [← funext fun x => harg4.readAt_unread x3 _ x] at ho
  rw [ht, ho, View.read_writes_junk_eq_canon]
  exact canon_whole3 _ _

/-- The first product as a table over the rows themselves. -/
def y0T : Fin 64 → Fin 256 → EReal := right (fun r k => x3 (ix3 0 r k)) (errBlk x0 x1 x2)

/-- The kernel's first product is `y0` with its columns permuted. -/
theorem bY0_at (r : Fin 64) (q : Fin 256) : bY0 x0 x1 x2 x3 (ix2 r q) = y0T x0 x1 x2 x3 r (perm q) := pay30_at x0 x1 x2 x3 r q

/-- After one power iteration: `y` with its columns permuted. -/
theorem bY1_at (r : Fin 64) (q : Fin 256) : bY1 x0 x1 x2 x3 (ix2 r q) = iter (y0T x0 x1 x2 x3) (errBlk x0 x1 x2) r (perm q) :=
  pay40_at x0 x1 x2 _ _ (bY0_at x0 x1 x2 x3) r q

/-- After two power iterations: `y` with its columns permuted. -/
theorem bY2_at (r : Fin 64) (q : Fin 256) : bY2 x0 x1 x2 x3 (ix2 r q) = iter (iter (y0T x0 x1 x2 x3) (errBlk x0 x1 x2)) (errBlk x0 x1 x2) r (perm q) :=
  pay41_at x0 x1 x2 _ _ (bY1_at x0 x1 x2 x3) r q

/-- The first output at an entry: `y` after two power iterations. -/
theorem out4_at (r : Fin 64) (s : Fin 256) : out0_A_4 c i arg1 harg1 arg2 harg2 arg3 harg3 arg4 harg4 arg5 harg5 arg6 harg6 arg7 harg7 arg8 harg8 arg9 harg9 arg10 harg10 arg11 harg11 x0 x1 x2 x3 (ix3 0 r s)
    = iter (iter (y0T x0 x1 x2 x3) (errBlk x0 x1 x2)) (errBlk x0 x1 x2) r s := by
  rw [out4]
  refine (inter_y _ _ r s).trans (inter_perm _ _ _ (fun r l => ?_) (fun r l => ?_) r s)
  · exact (pay42_at _ _ _ r l).trans (bY2_at x0 x1 x2 x3 r _)
  · exact (pay43_at _ _ _ r l).trans (bY2_at x0 x1 x2 x3 r _)

/-- The second output at an entry: `z`, the last `y` against the error matrix. -/
theorem out5_at (r : Fin 64) (k : Fin 7168) : out0_A_5 c i arg1 harg1 arg2 harg2 arg3 harg3 arg4 harg4 arg5 harg5 arg6 harg6 arg7 harg7 arg8 harg8 arg9 harg9 arg10 harg10 arg11 harg11 x0 x1 x2 x3 (ix3 0 r k)
    = left (iter (iter (y0T x0 x1 x2 x3) (errBlk x0 x1 x2)) (errBlk x0 x1 x2)) (errBlk x0 x1 x2) r k := by
  rw [out5]
  exact pay2_at x0 x1 x2 _ _ (bY2_at x0 x1 x2 x3) r k

/-- The third output at an entry: the first product. -/
theorem out6_at (r : Fin 64) (s : Fin 256) : out0_A_6 c i arg1 harg1 arg2 harg2 arg3 harg3 arg4 harg4 arg5 harg5 arg6 harg6 arg7 harg7 arg8 harg8 arg9 harg9 arg10 harg10 arg11 harg11 x0 x1 x2 x3 (ix3 0 r s) = y0T x0 x1 x2 x3 r s := by
  rw [out6]
  refine (inter_y0 _ _ r s).trans (inter_perm _ _ _ (fun r l => ?_) (fun r l => ?_) r s)
  · exact (pay31_at _ _ r l).trans (bY0_at x0 x1 x2 x3 r _)
  · exact (pay32_at _ _ r l).trans (bY0_at x0 x1 x2 x3 r _)

end Cert.KernelIdeal.Val
end
-- ==== Proof.Blocks.lean ====
module
public import proofs.«01_k».proof.Proof.Body
public import Idealize.ShloMosaic.Lib.Pipeline.ValueKit.Point
public import Idealize.ShloMosaic.Lib.Claim
@[expose] public section
set_option maxRecDepth 16384

noncomputable section

namespace Cert.KernelIdeal.Val

open Cert.KernelIdeal Cert.KernelIdeal.Gen Idealize.ShloMosaic Idealize.ShloMosaic.TcCoe Idealize.ShloMosaic.Tactic
open Idealize.SL.Sem
open Idealize.ShloMosaic.Pipeline (Dat)

/-! # The windows' blocks as parts of the arrays -/

variable (m : (ℓ : Loc nD τ sig) → Buf (Elt Ideal) ℓ)

/-- Every window's block at point `t` is the `t`-th slab of its array. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The block of the codes at grid point `t` is the `t`-th along the batch. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The block of the scales at grid point `t` is the `t`-th along the batch. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The block of the test matrix at grid point `t` is the `t`-th along the batch. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The block of `y` at grid point `t` is the `t`-th along the batch. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The block of `z` at grid point `t` is the `t`-th along the batch. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The block of `y0` at grid point `t` is the `t`-th along the batch. -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- The grid point as a batch number. -/
def bat (t : Fin cfg0.N) : Fin 48 := ⟨t.val, t.isLt⟩

/-- The weights' block at an entry. -/
theorem iblk0_at (c : Dev nD) (t : Fin cfg0.N) (s : Fin 256) (k : Fin 7168) :
    (iblk m c 0 t : Vec Ideal S1x256x7168 .bf16) (ix3 0 s k)
      = (m ((c : Thread nD τ).loc main_arg0) : Vec Ideal S48x256x7168 .bf16) (ix3 (bat t) s k) := by
  refine (?_ : _ = (V m c main_arg0 : Vec Ideal S48x256x7168 .bf16) (ix3 (bat t) s k)).trans (congrFun (V_main_arg0 m c) _)
  obtain ⟨e0, e1, e2⟩ := idx0 t
  show (V m c main_arg0 : Vec Ideal S48x256x7168 .bf16) _ = _
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * s.val = s.val; omega
  | ⟨2, _⟩ => show win0_0.index t (2 : Fin 3) * 7168 + 1 * k.val = k.val; omega

/-- The codes' block at an entry. -/
theorem iblk1_at (c : Dev nD) (t : Fin cfg0.N) (s : Fin 256) (k : Fin 3584) :
    (iblk m c 1 t : Vec Ideal S1x256x3584 .i8) (ix3 0 s k)
      = (m ((c : Thread nD τ).loc main_arg1) : Vec Ideal S48x256x3584 .i8) (ix3 (bat t) s k) := by
  refine (?_ : _ = (V m c main_arg1 : Vec Ideal S48x256x3584 .i8) (ix3 (bat t) s k)).trans (congrFun (V_main_arg1 m c) _)
  obtain ⟨e0, e1, e2⟩ := idx1 t
  show (V m c main_arg1 : Vec Ideal S48x256x3584 .i8) _ = _
  refine congrArg _ (funext fun a => Fin.ext ?_)
  match a with
  | ⟨0, _⟩ => show win0_1.index t (0 : Fin 3) * 1 + 1 * 0 = t.val; omega
  | ⟨1, _⟩ => show win0_1.index t (1 : Fin 3) * 256 + 1 * s.val = s.val; omega
  | ⟨2, _⟩ => show win0_1.index t (2 : Fin 3) * 3584 + 1 * k.val = k.val; omega

/-- The scales as the region finds them: transposed. -/
theorem V_main_v0_at (c : Dev nD) (b : Fin 48) (g : Fin 56) (s : Fin 256) :
    (V m c main_v0 : Vec Ideal S48x56x256 .f32) (ix3 b g s)
      = (m ((c : Thread nD τ).loc main_arg2) : Vec Ideal S48x256x56 .f32) (ix3 b s g) := by
  show StableHlo.after (List.flatten [hostOps0]) _ _ _ = _
  simp only [hostOps0, List.flatten_cons, List.flatten_nil, List.append_nil, List.cons_append, List.nil_append]
  after_results
  pointwise

/-- The test matrices as the region finds them: transposed. -/
theorem V_main_v1_at (c : Dev nD) (b : Fin 48) (r : Fin 64) (k : Fin 7168) :
    (V m c main_v1 : Vec Ideal S48x64x7168 .bf16) (ix3 b r k)
      = (m ((c : Thread nD τ).loc main_arg3) : Vec Ideal S48x7168x64 .bf16) (ix3 b k r) := by
  show StableHlo.after (List.flatten [hostOps0]) _ _ _ = _
  simp only [hostOps0, List.flatten_cons, List.flatten_nil, List.append_nil, List.cons_append, List.nil_append]
  after_results
  pointwise

/-- The scales' block at an entry. -/
theorem iblk2_at (c : Dev nD) (t : Fin cfg0.N) (g : Fin 56) (s : Fin 256) :
    (iblk m c 2 t : Vec Ideal S1x56x256 .f32) (ix3 0 g s)
      = (m ((c : Thread nD τ).loc main_arg2) : Vec Ideal S48x256x56 .f32) (ix3 (bat t) s g) := by
  refine Eq.trans ?_ (V_main_v0_at m c (bat t) g s)
  obtain ⟨e0, e1, e2⟩ := idx2 t
  show (V m c main_v0 : Vec Ideal S48x56x256 .f32) _ = _
  refine congrArg _ (funext fun a => Fin.ext ?_)
  match a with
  | ⟨0, _⟩ => show win0_2.index t (0 : Fin 3) * 1 + 1 * 0 = t.val; omega
  | ⟨1, _⟩ => show win0_2.index t (1 : Fin 3) * 56 + 1 * g.val = g.val; omega
  | ⟨2, _⟩ => show win0_2.index t (2 : Fin 3) * 256 + 1 * s.val = s.val; omega

/-- The test matrix's block at an entry. -/
theorem iblk3_at (c : Dev nD) (t : Fin cfg0.N) (r : Fin 64) (k : Fin 7168) :
    (iblk m c 3 t : Vec Ideal S1x64x7168 .bf16) (ix3 0 r k)
      = (m ((c : Thread nD τ).loc main_arg3) : Vec Ideal S48x7168x64 .bf16) (ix3 (bat t) k r) := by
  refine Eq.trans ?_ (V_main_v1_at m c (bat t) r k)
  obtain ⟨e0, e1, e2⟩ := idx3 t
  show (V m c main_v1 : Vec Ideal S48x64x7168 .bf16) _ = _
  refine congrArg _ (funext fun a => Fin.ext ?_)
  match a with
  | ⟨0, _⟩ => show win0_3.index t (0 : Fin 3) * 1 + 1 * 0 = t.val; omega
  | ⟨1, _⟩ => show win0_3.index t (1 : Fin 3) * 64 + 1 * r.val = r.val; omega
  | ⟨2, _⟩ => show win0_3.index t (2 : Fin 3) * 7168 + 1 * k.val = k.val; omega

/-- An output block's index in the array it is written to. -/
theorem emb4 (t : Fin cfg0.N) (r : Fin 64) (s : Fin 256) :
    ((cfg0.win 4).blk t).view.emb (ix3 (0 : Fin 1) r s) = (ix3 (bat t) r s : S48x64x256.Idx) := by
  obtain ⟨e0, e1, e2⟩ := idx4 t
  refine funext fun a => Fin.ext ?_
  match a with
  | ⟨0, _⟩ => show win0_4.index t (0 : Fin 3) * 1 + 1 * 0 = t.val; omega
  | ⟨1, _⟩ => show win0_4.index t (1 : Fin 3) * 64 + 1 * r.val = r.val; omega
  | ⟨2, _⟩ => show win0_4.index t (2 : Fin 3) * 256 + 1 * s.val = s.val; omega

/-- The same for `z`'s block. -/
theorem emb5 (t : Fin cfg0.N) (r : Fin 64) (k : Fin 7168) :
    ((cfg0.win 5).blk t).view.emb (ix3 (0 : Fin 1) r k) = (ix3 (bat t) r k : S48x64x7168.Idx) := by
  obtain ⟨e0, e1, e2⟩ := idx5 t
  refine funext fun a => Fin.ext ?_
  match a with
  | ⟨0, _⟩ => show win0_5.index t (0 : Fin 3) * 1 + 1 * 0 = t.val; omega
  | ⟨1, _⟩ => show win0_5.index t (1 : Fin 3) * 64 + 1 * r.val = r.val; omega
  | ⟨2, _⟩ => show win0_5.index t (2 : Fin 3) * 7168 + 1 * k.val = k.val; omega

/-- The same for `y0`'s block. -/
theorem emb6 (t : Fin cfg0.N) (r : Fin 64) (s : Fin 256) :
    ((cfg0.win 6).blk t).view.emb (ix3 (0 : Fin 1) r s) = (ix3 (bat t) r s : S48x64x256.Idx) := by
  obtain ⟨e0, e1, e2⟩ := idx6 t
  refine funext fun a => Fin.ext ?_
  match a with
  | ⟨0, _⟩ => show win0_6.index t (0 : Fin 3) * 1 + 1 * 0 = t.val; omega
  | ⟨1, _⟩ => show win0_6.index t (1 : Fin 3) * 64 + 1 * r.val = r.val; omega
  | ⟨2, _⟩ => show win0_6.index t (2 : Fin 3) * 256 + 1 * s.val = s.val; omega

end Cert.KernelIdeal.Val
-- ==== Proof.Spec.lean ====
module
public import proofs.«01_k».proof.Proof.Power
@[expose] public section

noncomputable section

namespace Cert.KernelIdeal.Val

open Cert.KernelIdeal Idealize.ShloMosaic Idealize.ShloMosaic.TcCoe Idealize.ShloMosaic.Tactic

/-! # The three results as functions of the four arguments -/

variable (w : Vec Ideal S48x256x7168 .bf16) (codes : Vec Ideal S48x256x3584 .i8) (sc : Vec Ideal S48x256x56 .f32) (om : Vec Ideal S48x7168x64 .bf16)

/-- The error matrix of batch entry `b`: the weight less the code times its group's scale. -/
def errArr (b : Fin 48) (s : Fin 256) (k : Fin 7168) : EReal :=
  err (w (ix3 b s k)) (nibAt (fun q => codes (ix3 b s q)) k) (sc (ix3 b s ⟨k.val / 128, by omega⟩))

/-- The first product, transposed. -/
def specY0 (b : Fin 48) : Fin 64 → Fin 256 → EReal := right (fun r k => om (ix3 b k r)) (errArr w codes sc b)
/-- The sketch after two power iterations, transposed. -/
def specY (b : Fin 48) : Fin 64 → Fin 256 → EReal := iter (iter (specY0 w codes sc om b) (errArr w codes sc b)) (errArr w codes sc b)
/-- The last product, transposed. -/
def specZ (b : Fin 48) : Fin 64 → Fin 7168 → EReal := left (specY w codes sc om b) (errArr w codes sc b)

/-- The result `y`, -/
def resY : Vec Ideal S48x256x64 .f32 := fun j => specY w codes sc om (j 0) (j 2) (j 1)
/-- the result `z`, -/
def resZ : Vec Ideal S48x7168x64 .f32 := fun j => specZ w codes sc om (j 0) (j 2) (j 1)
/-- and the result `y0`. -/
def resY0 : Vec Ideal S48x256x64 .f32 := fun j => specY0 w codes sc om (j 0) (j 2) (j 1)

end Cert.KernelIdeal.Val
-- ==== Proof.Final.lean ====
module
public import proofs.«01_k».proof.Proof.Blocks
public import proofs.«01_k».proof.Proof.Spec
@[expose] public section
set_option maxRecDepth 16384

noncomputable section

namespace Cert.KernelIdeal.Val

open Cert.KernelIdeal Cert.KernelIdeal.Gen Idealize.ShloMosaic Idealize.ShloMosaic.TcCoe Idealize.ShloMosaic.Tactic
open Idealize.SL.Sem
open Idealize.ShloMosaic.Pipeline (Dat)

/-! # The kernel's run: its three results are the specification's -/

variable (m : (ℓ : Loc nD τ sig) → Buf (Elt Ideal) ℓ) (ρ : Dev nD → PrngReg)

/-- The weights as launched. -/
abbrev aW (c : Dev nD) : Vec Ideal S48x256x7168 .bf16 := m ((c : Thread nD τ).loc main_arg0)

/-- The codes as launched. -/
abbrev aC (c : Dev nD) : Vec Ideal S48x256x3584 .i8 := m ((c : Thread nD τ).loc main_arg1)

/-- The scales as launched. -/
abbrev aS (c : Dev nD) : Vec Ideal S48x256x56 .f32 := m ((c : Thread nD τ).loc main_arg2)

/-- The test matrix as launched. -/
abbrev aO (c : Dev nD) : Vec Ideal S48x7168x64 .bf16 := m ((c : Thread nD τ).loc main_arg3)

/-- The error matrix off a point's blocks is the batch entry's. -/
theorem errBlk_eq (c : Dev nD) (t : Fin cfg0.N) :
    errBlk (iblk m c 0 t) (iblk m c 1 t) (iblk m c 2 t) = errArr (aW m c) (aC m c) (aS m c) (bat t) := by
  funext s k
  unfold errBlk errArr
  rw [iblk0_at m c t s k, iblk2_at m c t _ s, funext fun q => iblk1_at m c t s q]

/-- So is the first product, -/
theorem y0T_eq (c : Dev nD) (t : Fin cfg0.N) :
    y0T (iblk m c 0 t) (iblk m c 1 t) (iblk m c 2 t) (iblk m c 3 t) = specY0 (aW m c) (aC m c) (aS m c) (aO m c) (bat t) := by
  unfold y0T specY0
  rw [errBlk_eq, funext fun r => funext fun k => iblk3_at m c t r k]

/-- and the sketch after two power iterations. -/
theorem yT_eq (c : Dev nD) (t : Fin cfg0.N) :
    iter (iter (y0T (iblk m c 0 t) (iblk m c 1 t) (iblk m c 2 t) (iblk m c 3 t)) (errBlk (iblk m c 0 t) (iblk m c 1 t) (iblk m c 2 t)))
      (errBlk (iblk m c 0 t) (iblk m c 1 t) (iblk m c 2 t)) = specY (aW m c) (aC m c) (aS m c) (aO m c) (bat t) := by
  unfold specY
  rw [y0T_eq, errBlk_eq]

/-- What the kernel's three result arrays end holding. -/
def arr4 (c : Dev nD) : Vec Ideal S48x64x256 .f32 := fun j => specY (aW m c) (aC m c) (aS m c) (aO m c) (j 0) (j 1) (j 2)

/-- What `z`'s array holds after the region, before the host's transpose. -/
def arr5 (c : Dev nD) : Vec Ideal S48x64x7168 .f32 := fun j => specZ (aW m c) (aC m c) (aS m c) (aO m c) (j 0) (j 1) (j 2)

/-- What `y0`'s array holds after the region, before the host's transpose. -/
def arr6 (c : Dev nD) : Vec Ideal S48x64x256 .f32 := fun j => specY0 (aW m c) (aC m c) (aS m c) (aO m c) (j 0) (j 1) (j 2)

/-- An index of rank 3 whose first coordinate has one value. -/
theorem eq_ix3_zero {n k : ℕ} (j : (⟨3, ![1, n, k]⟩ : Shape).Idx) : j = ix3 (0 : Fin 1) (j 1 : Fin n) (j 2 : Fin k) := by
  funext a
  match a with
  | ⟨0, _⟩ => exact Subsingleton.elim (α := Fin 1) _ _
  | ⟨1, _⟩ => rfl
  | ⟨2, _⟩ => rfl

/-- What point `t` leaves in the three outputs, at an entry. -/
theorem outs4 (c : Dev nD) (t : Fin cfg0.N) (r : Fin 64) (s : Fin 256) :
    (outsAt0 m c t).1 (ix3 (0 : Fin 1) r s) = specY (aW m c) (aC m c) (aS m c) (aO m c) (bat t) r s := by
  unfold outsAt0
  dsimp only
  rw [out4_at, yT_eq]

/-- What point `t` leaves in the second output: its batch entry of `z`. -/
theorem outs5 (c : Dev nD) (t : Fin cfg0.N) (r : Fin 64) (k : Fin 7168) :
    (outsAt0 m c t).2.1 (ix3 (0 : Fin 1) r k) = specZ (aW m c) (aC m c) (aS m c) (aO m c) (bat t) r k := by
  unfold outsAt0 specZ
  dsimp only
  rw [out5_at, yT_eq, errBlk_eq]

/-- What point `t` leaves in the third output: its batch entry of `y0`. -/
theorem outs6 (c : Dev nD) (t : Fin cfg0.N) (r : Fin 64) (s : Fin 256) :
    (outsAt0 m c t).2.2 (ix3 (0 : Fin 1) r s) = specY0 (aW m c) (aC m c) (aS m c) (aO m c) (bat t) r s := by
  unfold outsAt0
  dsimp only
  rw [out6_at, y0T_eq]

/-- The first output's block is the part of its array that it is written to. -/
theorem outsIdx4 (c : Dev nD) (t : Fin cfg0.N) (j : S1x64x256.Idx) :
    (outsAt0 m c t).1 j = arr4 m c (((cfg0.win 4).blk t).view.emb j) := by
  rw [eq_ix3_zero j]
  exact (outs4 m c t _ _).trans (congrArg (arr4 m c) (emb4 t _ _)).symm
/-- So what the point writes back is its slab of the result. -/
theorem flushed4_eq (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  exact funext fun j => outsIdx4 m c t j

/-- The second output's block is the part of its array that it is written to. -/
theorem outsIdx5 (c : Dev nD) (t : Fin cfg0.N) (j : S1x64x7168.Idx) :
    (outsAt0 m c t).2.1 j = arr5 m c (((cfg0.win 5).blk t).view.emb j) := by
  rw [eq_ix3_zero j]
  exact (outs5 m c t _ _).trans (congrArg (arr5 m c) (emb5 t _ _)).symm
/-- So what the point writes back is its slab of the result. -/
theorem flushed5_eq (c : Dev nD) (t : Fin cfg0.N) :
    (dats m 0 c).flushed 5 t = ((cfg0.win 5).blk t).view.read (Elt Ideal) (arr5 m c) := by
  show (cfg0.win 5).cut (grid0.coords t) ((dats m 0 c).after 5 t) = _
  rw [after0_5]
  exact funext fun j => outsIdx5 m c t j

/-- The third output's block is the part of its array that it is written to. -/
theorem outsIdx6 (c : Dev nD) (t : Fin cfg0.N) (j : S1x64x256.Idx) :
    (outsAt0 m c t).2.2 j = arr6 m c (((cfg0.win 6).blk t).view.emb j) := by
  rw [eq_ix3_zero j]
  exact (outs6 m c t _ _).trans (congrArg (arr6 m c) (emb6 t _ _)).symm
/-- So what the point writes back is its slab of the result. -/
theorem flushed6_eq (c : Dev nD) (t : Fin cfg0.N) :
    (dats m 0 c).flushed 6 t = ((cfg0.win 6).blk t).view.read (Elt Ideal) (arr6 m c) := by
  show (cfg0.win 6).cut (grid0.coords t) ((dats m 0 c).after 6 t) = _
  rw [after0_6]
  exact funext fun j => outsIdx6 m c t j

/-- The grid point of a batch entry. -/
def pt (b : Fin 48) : Fin cfg0.N := ⟨b.val, b.isLt⟩

/-- Every index of a result array is in the block of its batch entry's grid point. -/
theorem mem4 (b : Fin 48) (r : Fin 64) (k : Fin 256) : (ix3 b r k : S48x64x256.Idx) ∈ ((cfg0.win 4).blk (pt b)).view.set := by
  have h := ((cfg0.win 4).blk (pt b)).view.emb_mem_set (ix3 (0 : Fin 1) r k)
  have e : ((cfg0.win 4).blk (pt b)).view.emb (ix3 (0 : Fin 1) r k) = (ix3 b r k : S48x64x256.Idx) := emb4 (pt b) r k
  rw [e] at h
  exact h

/-- Every entry of the first array is written by some point. -/
theorem cover4 (i : S48x64x256.Idx) : ∃ t : Fin cfg0.N, (cfg0.win 4).flush t = true ∧ i ∈ ((cfg0.win 4).blk t).view.set := by
  rw [eq_ix3 i]
  exact ⟨pt (i 0), flush0_4 _, mem4 (i 0) (i 1) (i 2)⟩

/-- An entry of batch entry `b` lies in point `b`'s block of the second array. -/
theorem mem5 (b : Fin 48) (r : Fin 64) (k : Fin 7168) : (ix3 b r k : S48x64x7168.Idx) ∈ ((cfg0.win 5).blk (pt b)).view.set := by
  have h := ((cfg0.win 5).blk (pt b)).view.emb_mem_set (ix3 (0 : Fin 1) r k)
  have e : ((cfg0.win 5).blk (pt b)).view.emb (ix3 (0 : Fin 1) r k) = (ix3 b r k : S48x64x7168.Idx) := emb5 (pt b) r k
  rw [e] at h
  exact h

/-- Every entry of the second array is written by some point. -/
theorem cover5 (i : S48x64x7168.Idx) : ∃ t : Fin cfg0.N, (cfg0.win 5).flush t = true ∧ i ∈ ((cfg0.win 5).blk t).view.set := by
  rw [eq_ix3 i]
  exact ⟨pt (i 0), flush0_5 _, mem5 (i 0) (i 1) (i 2)⟩

/-- An entry of batch entry `b` lies in point `b`'s block of the third array. -/
theorem mem6 (b : Fin 48) (r : Fin 64) (k : Fin 256) : (ix3 b r k : S48x64x256.Idx) ∈ ((cfg0.win 6).blk (pt b)).view.set := by
  have h := ((cfg0.win 6).blk (pt b)).view.emb_mem_set (ix3 (0 : Fin 1) r k)
  have e : ((cfg0.win 6).blk (pt b)).view.emb (ix3 (0 : Fin 1) r k) = (ix3 b r k : S48x64x256.Idx) := emb6 (pt b) r k
  rw [e] at h
  exact h

/-- Every entry of the third array is written by some point. -/
theorem cover6 (i : S48x64x256.Idx) : ∃ t : Fin cfg0.N, (cfg0.win 6).flush t = true ∧ i ∈ ((cfg0.win 6).blk t).view.set := by
  rw [eq_ix3 i]
  exact ⟨pt (i 0), flush0_6 _, mem6 (i 0) (i 1) (i 2)⟩

/-- After all points the first array holds `y`. -/
theorem final4 (c : Dev nD) : (dats m 0 c).arrAt 4 cfg0.N = arr4 m c :=
  (dats m 0 c).arrAt_eq_of_cover 4 (arr4 m c) (fun t _ => flushed4_eq m c t) cover4

/-- After all points the second array holds `z`. -/
theorem final5 (c : Dev nD) : (dats m 0 c).arrAt 5 cfg0.N = arr5 m c :=
  (dats m 0 c).arrAt_eq_of_cover 5 (arr5 m c) (fun t _ => flushed5_eq m c t) cover5

/-- After all points the third array holds `y0`. -/
theorem final6 (c : Dev nD) : (dats m 0 c).arrAt 6 cfg0.N = arr6 m c :=
  (dats m 0 c).arrAt_eq_of_cover 6 (arr6 m c) (fun t _ => flushed6_eq m c t) cover6

/-- No two windows stage one array. -/
theorem arr_inj : Function.Injective (Pipeline.arrRef spec0) := by decide

/-- The host's transposes after the region leave the results. -/
theorem tail3 (c : Dev nD) : Pipeline.afterTail₀ cfgs (dats m) 0 (V0 m) [hostOps1] c main_v3
    = resY (aW m c) (aC m c) (aS m c) (aO m c) := by
  unfold Pipeline.afterTail₀
  simp only [hostOps1, List.flatten_cons, List.flatten_nil, List.append_nil, List.cons_append, List.nil_append]
  after_results
  rw [show Pipeline.withArrays _ c (V0 m c) _ (Proc.devRef .tc main_v2_0) = arr4 m c from
    (Pipeline.withArrays_arr spec0 arr_inj c (V0 m c) _ 4).trans (final4 m c)]
  funext j
  obtain ⟨b, s, r, rfl⟩ : ∃ b s r, j = ix3 b s r := ⟨_, _, _, eq_ix3 j⟩
  pointwise
  rfl

/-- After the host's transpose the second result is `z`. -/
theorem tail4 (c : Dev nD) : Pipeline.afterTail₀ cfgs (dats m) 0 (V0 m) [hostOps1] c main_v4
    = resZ (aW m c) (aC m c) (aS m c) (aO m c) := by
  unfold Pipeline.afterTail₀
  simp only [hostOps1, List.flatten_cons, List.flatten_nil, List.append_nil, List.cons_append, List.nil_append]
  after_results
  rw [show Pipeline.withArrays _ c (V0 m c) _ (Proc.devRef .tc main_v2_1) = arr5 m c from
    (Pipeline.withArrays_arr spec0 arr_inj c (V0 m c) _ 5).trans (final5 m c)]
  funext j
  obtain ⟨b, s, r, rfl⟩ : ∃ b s r, j = ix3 b s r := ⟨_, _, _, eq_ix3 j⟩
  pointwise
  rfl

/-- After the host's transpose the third result is `y0`. -/
theorem tail5 (c : Dev nD) : Pipeline.afterTail₀ cfgs (dats m) 0 (V0 m) [hostOps1] c main_v5
    = resY0 (aW m c) (aC m c) (aS m c) (aO m c) := by
  unfold Pipeline.afterTail₀
  simp only [hostOps1, List.flatten_cons, List.flatten_nil, List.append_nil, List.cons_append, List.nil_append]
  after_results
  rw [show Pipeline.withArrays _ c (V0 m c) _ (Proc.devRef .tc main_v2_2) = arr6 m c from
    (Pipeline.withArrays_arr spec0 arr_inj c (V0 m c) _ 6).trans (final6 m c)]
  funext j
  obtain ⟨b, s, r, rfl⟩ : ∃ b s r, j = ix3 b s r := ⟨_, _, _, eq_ix3 j⟩
  pointwise
  rfl

/-- The kernel's run: its three results are the specification's, its arguments are kept. -/
theorem run : θ_run defs (onTc (τ := τ) (main (F := Ideal))) ⟨m, fun _ => 0, ρ⟩ (fun r => ∀ c : Dev nD,
      r.2.mem ((c.tc : Thread nD τ).loc main_v3) = resY (aW m c) (aC m c) (aS m c) (aO m c)
      ∧ r.2.mem ((c.tc : Thread nD τ).loc main_v4) = resZ (aW m c) (aC m c) (aS m c) (aO m c)
      ∧ r.2.mem ((c.tc : Thread nD τ).loc main_v5) = resY0 (aW m c) (aC m c) (aS m c) (aO m c)) :=
  (θ_run defs _ _).mono (fun _ h c =>
    ⟨((h c).2 main_v3 (Pipeline.mem_restRefs_of main_v3 (by decide) (by decide))).trans (tail3 m c),
     ((h c).2 main_v4 (Pipeline.mem_restRefs_of main_v4 (by decide) (by decide))).trans (tail4 m c),
     ((h c).2 main_v5 (Pipeline.mem_restRefs_of main_v5 (by decide) (by decide))).trans (tail5 m c)⟩) (run_main m ρ)

end Cert.KernelIdeal.Val
-- ==== Proof.RefValue.lean ====
module
public import proofs.«01_k».proof.Proof.Spec
public import proofs.«01_k».proof.Proof.Gen.ReferenceIdeal.Run
public import Idealize.ShloMosaic.Lib.Pointwise
@[expose] public section
set_option maxRecDepth 16384

noncomputable section

namespace Cert.ReferenceIdeal.Val

open Cert.ReferenceIdeal Cert.ReferenceIdeal.Gen Idealize.ShloMosaic Idealize.ShloMosaic.TcCoe Idealize.ShloMosaic.Tactic
open Idealize.SL.Sem
open Cert.KernelIdeal.Val (err nibAt nibLo nibHi unpack unpack_lo field_24 errArr specY0 specY specZ resY0 resY resZ right left iter)

/-! # The reference's three results are the specification's -/

variable (w : FVec Ideal S48x256x7168 .bf16) (codes : Vec Ideal S48x256x3584 .i8) (sc : FVec Ideal S48x256x56 .f32) (om : FVec Ideal S48x7168x64 .bf16)

/-- The high nibble as the reference unpacks it is the kernel's. -/
theorem unpack_hi : ∀ b : BitVec 8, unpack ((b.setWidth 32).sshiftRight 4) = nibHi b := by
  intro b
  rw [nibHi, field_24]
  revert b
  decide +kernel

/-- The reference's codes of the first half, -/
def codesLo : Vec Ideal S48x256x3584 .i32 :=
  select (cmpi .sge (andi (extui 32 codes natLt_8_32) (broadcastInDim S48x256x3584 ![] bcast_S_S48x256x3584 (constantI S_ 32 15#32))) (broadcastInDim S48x256x3584 ![] bcast_S_S48x256x3584 (constantI S_ 32 8#32))) (subi (andi (extui 32 codes natLt_8_32) (broadcastInDim S48x256x3584 ![] bcast_S_S48x256x3584 (constantI S_ 32 15#32))) (broadcastInDim S48x256x3584 ![] bcast_S_S48x256x3584 (constantI S_ 32 16#32))) (andi (extui 32 codes natLt_8_32) (broadcastInDim S48x256x3584 ![] bcast_S_S48x256x3584 (constantI S_ 32 15#32)))
/-- and of the second. -/
def codesHi : Vec Ideal S48x256x3584 .i32 :=
  select (cmpi .sge (Host.shrsi (extui 32 codes natLt_8_32) (broadcastInDim S48x256x3584 ![] bcast_S_S48x256x3584 (constantI S_ 32 4#32))) (broadcastInDim S48x256x3584 ![] bcast_S_S48x256x3584 (constantI S_ 32 8#32))) (subi (Host.shrsi (extui 32 codes natLt_8_32) (broadcastInDim S48x256x3584 ![] bcast_S_S48x256x3584 (constantI S_ 32 4#32))) (broadcastInDim S48x256x3584 ![] bcast_S_S48x256x3584 (constantI S_ 32 16#32))) (Host.shrsi (extui 32 codes natLt_8_32) (broadcastInDim S48x256x3584 ![] bcast_S_S48x256x3584 (constantI S_ 32 4#32)))

/-- A code of the first half is the low nibble of its byte. -/
theorem codesLo_at (b : Fin 48) (s : Fin 256) (q : Fin 3584) : codesLo codes (ix3 b s q) = nibLo (codes (ix3 b s q)) := by
  refine Eq.trans ?_ (unpack_lo _)
  pointwise [codesLo]
  rfl

/-- A code of the second half is the high nibble of its byte. -/
theorem codesHi_at (b : Fin 48) (s : Fin 256) (q : Fin 3584) : codesHi codes (ix3 b s q) = nibHi (codes (ix3 b s q)) := by
  refine Eq.trans ?_ (unpack_hi _)
  pointwise [codesHi]
  rfl

/-- The reference's error matrix, its first half of the columns, -/
def eLo : FVec Ideal S48x256x3584 .bf16 :=
  shapeCast _ (truncf (F := Ideal) .bf16 (subf (F := Ideal) (shapeCast _ (extf (F := Ideal) .f32 (extractStridedSlice S48x256x3584 ![0, 0, 0] w slices_S48x256x7168_S48x256x3584_0_0_0) bitsLt_bf16_f32) shapeCasts_S48x256x3584_S48x256x28x128) (mulf (F := Ideal) (shapeCast _ (sitofp (F := Ideal) .f32 (codesLo codes)) shapeCasts_S48x256x3584_S48x256x28x128) (broadcastInDim S48x256x28x128 ![0, 1, 2, 3] bcast_S48x256x28x1_S48x256x28x128_0_1_2_3 (broadcastInDim S48x256x28x1 ![0, 1, 2] bcast_S48x256x28_S48x256x28x1_0_1_2 (extractStridedSlice S48x256x28 ![0, 0, 0] sc slices_S48x256x56_S48x256x28_0_0_0))))) bitsLt_bf16_f32) shapeCasts_S48x256x28x128_S48x256x3584
/-- and its second. -/
def eHi : FVec Ideal S48x256x3584 .bf16 :=
  shapeCast _ (truncf (F := Ideal) .bf16 (subf (F := Ideal) (shapeCast _ (extf (F := Ideal) .f32 (extractStridedSlice S48x256x3584 ![0, 0, 3584] w slices_S48x256x7168_S48x256x3584_0_0_3584) bitsLt_bf16_f32) shapeCasts_S48x256x3584_S48x256x28x128) (mulf (F := Ideal) (shapeCast _ (sitofp (F := Ideal) .f32 (codesHi codes)) shapeCasts_S48x256x3584_S48x256x28x128) (broadcastInDim S48x256x28x128 ![0, 1, 2, 3] bcast_S48x256x28x1_S48x256x28x128_0_1_2_3 (broadcastInDim S48x256x28x1 ![0, 1, 2] bcast_S48x256x28_S48x256x28x1_0_1_2 (extractStridedSlice S48x256x28 ![0, 0, 28] sc slices_S48x256x56_S48x256x28_0_0_28))))) bitsLt_bf16_f32) shapeCasts_S48x256x28x128_S48x256x3584

/-- A column of the first half. -/
def kLo (q : Fin 3584) : Fin 7168 := ⟨q.val, by omega⟩

/-- A column of the second half. -/
def kHi (q : Fin 3584) : Fin 7168 := ⟨3584 + q.val, by omega⟩

/-- The reference's first half of the error matrix is the error matrix's. -/
theorem eLo_at (b : Fin 48) (s : Fin 256) (q : Fin 3584) : eLo w codes sc (ix3 b s q) = errArr w codes sc b s (kLo q) := by
  unfold errArr nibAt
  rw [dif_pos (show (kLo q).val < 3584 from q.isLt)]
  refine Eq.trans ?_ (congrArg (fun n => err (w (ix3 b s (kLo q))) n (sc (ix3 b s ⟨(kLo q).val / 128, by omega⟩))) (codesLo_at codes b s q))
  pointwise [eLo]
  rfl

/-- The reference's second half of the error matrix is the error matrix's. -/
theorem eHi_at (b : Fin 48) (s : Fin 256) (q : Fin 3584) : eHi w codes sc (ix3 b s q) = errArr w codes sc b s (kHi q) := by
  unfold errArr nibAt
  rw [dif_neg (show ¬ (kHi q).val < 3584 from by show ¬ 3584 + q.val < 3584; omega)]
  have hq : (⟨(kHi q).val - 3584, by show 3584 + q.val - 3584 < 3584; omega⟩ : Fin 3584) = q := Fin.ext (by show 3584 + q.val - 3584 = q.val; omega)
  refine Eq.trans ?_ (congrArg (fun n => err (w (ix3 b s (kHi q))) n (sc (ix3 b s ⟨(kHi q).val / 128, by omega⟩)))
    ((codesHi_at codes b s q).trans (congrArg (fun x => nibHi (codes (ix3 b s x))) hq.symm)))
  pointwise [eHi]
  have hs : (⟨28 + q.val / 128, by omega⟩ : Fin 56) = ⟨(kHi q).val / 128, by omega⟩ :=
    Fin.ext (by show 28 + q.val / 128 = (3584 + q.val) / 128; omega)
  exact congrArg (fun g => err (w (ix3 b s (kHi q))) (codesHi codes (ix3 b s q)) (sc (ix3 b s g))) hs

/-- A sum over the columns is its two halves'. -/
theorem sum_halves (f : Fin 7168 → EReal) : ∑ k, f k = (∑ q, f (kLo q)) + ∑ q, f (kHi q) :=
  Fin.sum_univ_add (a := 3584) (b := 3584) f

/-- The reference's product with the error matrix, -/
def mulRight (pLo pHi : FVec Ideal S48x3584x64 .bf16) : FVec Ideal S48x256x64 .f32 :=
  addf (F := Ideal) (Host.dotGeneral (F := Ideal) dot_S48x256x3584_S48x3584x64_S48x256x64_2_1_1_2_0_0 none (eLo w codes sc) pLo) (Host.dotGeneral (F := Ideal) dot_S48x256x3584_S48x3584x64_S48x256x64_2_1_1_2_0_0 none (eHi w codes sc) pHi)
/-- and with its transpose, by halves of the columns. -/
def mulLeft (e : FVec Ideal S48x256x3584 .bf16) (y : FVec Ideal S48x256x64 .f32) : FVec Ideal S48x3584x64 .f32 :=
  Host.dotGeneral (F := Ideal) dot_S48x256x3584_S48x256x64_S48x3584x64_1_1_2_2_0_0 none e (truncf (F := Ideal) .bf16 y bitsLt_bf16_f32)

/-- One power iteration as the reference writes it. -/
def iterR (y : FVec Ideal S48x256x64 .f32) : FVec Ideal S48x256x64 .f32 :=
  mulRight w codes sc (truncf (F := Ideal) .bf16 (mulLeft (eLo w codes sc) y) bitsLt_bf16_f32) (truncf (F := Ideal) .bf16 (mulLeft (eHi w codes sc) y) bitsLt_bf16_f32)

/-- The product with the error matrix, at an entry: the sum over all the columns. -/
theorem mulRight_at (pLo pHi : FVec Ideal S48x3584x64 .bf16) (P : Fin 48 → Fin 64 → Fin 7168 → EReal)
    (hLo : ∀ b q r, pLo (ix3 b q r) = P b r (kLo q)) (hHi : ∀ b q r, pHi (ix3 b q r) = P b r (kHi q)) (b : Fin 48) (s : Fin 256) (r : Fin 64) :
    mulRight w codes sc pLo pHi (ix3 b s r) = right (P b) (errArr w codes sc b) r s := by
  pointwise [mulRight]
  unfold right
  rw [sum_halves]
  congr 1
  · exact Finset.sum_congr rfl fun q _ => by rw [hLo, eLo_at, mul_comm]
  · exact Finset.sum_congr rfl fun q _ => by rw [hHi, eHi_at, mul_comm]

/-- The product with the transpose of one half, at an entry: the sum over the rows. -/
theorem mulLeft_at (e : FVec Ideal S48x256x3584 .bf16) (y : FVec Ideal S48x256x64 .f32) (b : Fin 48) (q : Fin 3584) (r : Fin 64) :
    mulLeft e y (ix3 b q r) = ∑ s : Fin 256, e (ix3 b s q) * y (ix3 b s r) := by
  pointwise [mulLeft]

/-- The product with the transpose, in the first half of the columns. -/
theorem mulLeftLo_at (y : FVec Ideal S48x256x64 .f32) (Y : Fin 48 → Fin 64 → Fin 256 → EReal) (hy : ∀ b s r, y (ix3 b s r) = Y b r s)
    (b : Fin 48) (q : Fin 3584) (r : Fin 64) : mulLeft (eLo w codes sc) y (ix3 b q r) = left (Y b) (errArr w codes sc b) r (kLo q) := by
  rw [mulLeft_at]
  exact Finset.sum_congr rfl fun s _ => by rw [hy, eLo_at, mul_comm]

/-- The product with the transpose, in the second half of the columns. -/
theorem mulLeftHi_at (y : FVec Ideal S48x256x64 .f32) (Y : Fin 48 → Fin 64 → Fin 256 → EReal) (hy : ∀ b s r, y (ix3 b s r) = Y b r s)
    (b : Fin 48) (q : Fin 3584) (r : Fin 64) : mulLeft (eHi w codes sc) y (ix3 b q r) = left (Y b) (errArr w codes sc b) r (kHi q) := by
  rw [mulLeft_at]
  exact Finset.sum_congr rfl fun s _ => by rw [hy, eHi_at, mul_comm]

/-- One power iteration of the reference. -/
theorem iterR_at (y : FVec Ideal S48x256x64 .f32) (Y : Fin 48 → Fin 64 → Fin 256 → EReal) (hy : ∀ b s r, y (ix3 b s r) = Y b r s)
    (b : Fin 48) (s : Fin 256) (r : Fin 64) : iterR w codes sc y (ix3 b s r) = iter (Y b) (errArr w codes sc b) r s :=
  mulRight_at w codes sc _ _ (fun b => left (Y b) (errArr w codes sc b))
    (fun b q r => mulLeftLo_at w codes sc y Y hy b q r) (fun b q r => mulLeftHi_at w codes sc y Y hy b q r) b s r

/-- The reference's `y0`. -/
def refY0 : FVec Ideal S48x256x64 .f32 :=
  mulRight w codes sc (extractStridedSlice S48x3584x64 ![0, 0, 0] om slices_S48x7168x64_S48x3584x64_0_0_0) (extractStridedSlice S48x3584x64 ![0, 3584, 0] om slices_S48x7168x64_S48x3584x64_0_3584_0)

/-- The reference's `y`. -/
def refY : FVec Ideal S48x256x64 .f32 := iterR w codes sc (iterR w codes sc (refY0 w codes sc om))

/-- The reference's `z`. -/
def refZ : FVec Ideal S48x7168x64 .f32 :=
  concatenate S48x7168x64 1 [⟨S48x3584x64, mulLeft (eLo w codes sc) (refY w codes sc om)⟩, ⟨S48x3584x64, mulLeft (eHi w codes sc) (refY w codes sc om)⟩] concatenates_S48x3584x64_S48x3584x64_S48x7168x64_d1

/-- The reference's `y0` is the specification's, at an entry. -/
theorem refY0_at (b : Fin 48) (s : Fin 256) (r : Fin 64) : refY0 w codes sc om (ix3 b s r) = specY0 w codes sc om b r s :=
  mulRight_at w codes sc _ _ (fun b r k => om (ix3 b k r))
    (fun b q r => by pointwise; rfl) (fun b q r => by pointwise; rfl) b s r

/-- The reference's `y` is the specification's, at an entry. -/
theorem refY_at (b : Fin 48) (s : Fin 256) (r : Fin 64) : refY w codes sc om (ix3 b s r) = specY w codes sc om b r s :=
  iterR_at w codes sc _ (fun b => iter (specY0 w codes sc om b) (errArr w codes sc b))
    (iterR_at w codes sc _ (specY0 w codes sc om) (refY0_at w codes sc om)) b s r

/-- The reference's `z` is the specification's, at an entry. -/
theorem refZ_at (b : Fin 48) (k : Fin 7168) (r : Fin 64) : refZ w codes sc om (ix3 b k r) = specZ w codes sc om b r k := by
  pointwise [refZ]
  split
  · exact mulLeftLo_at w codes sc _ _ (refY_at w codes sc om) b _ r
  · rename_i h
    refine (mulLeftHi_at w codes sc _ _ (refY_at w codes sc om) b _ r).trans (congrArg (specZ w codes sc om b r) (Fin.ext ?_))
    show 3584 + (k.val - 3584) = k.val
    omega

/-- The reference's `y0` is the specification's. -/
theorem refY0_eq : refY0 w codes sc om = resY0 w codes sc om := by
  funext j; rw [eq_ix3 j]; exact refY0_at w codes sc om _ _ _

/-- The reference's `y` is the specification's. -/
theorem refY_eq : refY w codes sc om = resY w codes sc om := by
  funext j; rw [eq_ix3 j]; exact refY_at w codes sc om _ _ _

/-- The reference's `z` is the specification's. -/
theorem refZ_eq : refZ w codes sc om = resZ w codes sc om := by
  funext j; rw [eq_ix3 j]; exact refZ_at w codes sc om _ _ _

variable (m : (ℓ : Loc nD τ sig) → Buf (Elt Ideal) ℓ) (ρ : Dev nD → PrngReg)

/-- The weights as launched. -/
abbrev aW (c : Dev nD) : FVec Ideal S48x256x7168 .bf16 := m ((c : Thread nD τ).loc main_arg0)

/-- The codes as launched. -/
abbrev aC (c : Dev nD) : Vec Ideal S48x256x3584 .i8 := m ((c : Thread nD τ).loc main_arg1)

/-- The scales as launched. -/
abbrev aS (c : Dev nD) : FVec Ideal S48x256x56 .f32 := m ((c : Thread nD τ).loc main_arg2)

/-- The test matrix as launched. -/
abbrev aO (c : Dev nD) : FVec Ideal S48x7168x64 .bf16 := m ((c : Thread nD τ).loc main_arg3)

/-- The program's first result is the specification's `y`. -/
theorem res59 (c : Dev nD) : Value.res_main_v59 m c = resY (aW m c) (aC m c) (aS m c) (aO m c) :=
  Eq.trans (show _ = refY (aW m c) (aC m c) (aS m c) (aO m c) by unfold Value.res_main_v59; rfl) (refY_eq (aW m c) (aC m c) (aS m c) (aO m c))

/-- The program's second result is the specification's `z`. -/
theorem res63 (c : Dev nD) : Value.res_main_v63 m c = resZ (aW m c) (aC m c) (aS m c) (aO m c) :=
  Eq.trans (show _ = refZ (aW m c) (aC m c) (aS m c) (aO m c) by unfold Value.res_main_v63; rfl) (refZ_eq (aW m c) (aC m c) (aS m c) (aO m c))

/-- The reference's run: its three results are the specification's, its arguments are kept. -/
theorem run : θ_run defs (onTc (τ := τ) (main (F := Ideal))) ⟨m, fun _ => 0, ρ⟩ fun r => ∀ c : Dev nD,
      r.2.mem ((c.tc : Thread nD τ).loc main_v59) = resY (aW m c) (aC m c) (aS m c) (aO m c)
      ∧ r.2.mem ((c.tc : Thread nD τ).loc main_v63) = resZ (aW m c) (aC m c) (aS m c) (aO m c)
      ∧ r.2.mem ((c.tc : Thread nD τ).loc main_v43) = resY0 (aW m c) (aC m c) (aS m c) (aO m c) :=
  (θ_run defs _ _).mono (fun _ h c => ⟨(h c).1.trans (res59 m c), (h c).2.1.trans (res63 m c),
    (h c).2.2.1.trans (refY0_eq (aW m c) (aC m c) (aS m c) (aO m c))⟩) (Value.run m ρ)

end Cert.ReferenceIdeal.Val
-- ==== Proof.lean ====
module

public import proofs.«01_k».proof.Defs
public import proofs.«01_k».proof.Proof.Gen.Kernel
public import proofs.«01_k».proof.Proof.Gen.Kernel.Frame
public import proofs.«01_k».proof.Proof.Final
public import proofs.«01_k».proof.Proof.RefValue
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and it declares no semaphore. -/
theorem frame_ref : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The idealized kernel is the kernel under the rule offered. -/
theorem preserves : Cert.preserves_Kernel_KernelIdeal :=
  ⟨IdealRules.bf16_pair.statement _ _, IdealRules.bf16_pair.statement _ _⟩

/-- The idealized kernel and the reference leave the same three results. -/
theorem algebraic : Cert.algebraic_KernelIdeal_ReferenceIdeal := fun m g m' g' _ ha =>
  ⟨fun c => Cert.KernelIdeal.Val.resY (Cert.KernelIdeal.Val.aW m c) (Cert.KernelIdeal.Val.aC m c) (Cert.KernelIdeal.Val.aS m c) (Cert.KernelIdeal.Val.aO m c),
   fun c => Cert.KernelIdeal.Val.resZ (Cert.KernelIdeal.Val.aW m c) (Cert.KernelIdeal.Val.aC m c) (Cert.KernelIdeal.Val.aS m c) (Cert.KernelIdeal.Val.aO m c),
   fun c => Cert.KernelIdeal.Val.resY0 (Cert.KernelIdeal.Val.aW m c) (Cert.KernelIdeal.Val.aC m c) (Cert.KernelIdeal.Val.aS m c) (Cert.KernelIdeal.Val.aO m c),
   (θ_run Cert.KernelIdeal.defs _ _).mono (fun _ h c => ⟨(h.1 c).1, (h.1 c).2.1, (h.1 c).2.2, h.2 c⟩)
     (θ_run_and (Cert.KernelIdeal.Val.run m g) (Cert.KernelIdeal.Gen.unchanged m g)),
   (θ_run Cert.ReferenceIdeal.defs _ _).mono (fun _ h c => by
      have e0 : Cert.ReferenceIdeal.Val.aW m' c = Cert.KernelIdeal.Val.aW m c := (ha c).1
      have e1 : Cert.ReferenceIdeal.Val.aC m' c = Cert.KernelIdeal.Val.aC m c := (ha c).2.1
      have e2 : Cert.ReferenceIdeal.Val.aS m' c = Cert.KernelIdeal.Val.aS m c := (ha c).2.2.1
      have e3 : Cert.ReferenceIdeal.Val.aO m' c = Cert.KernelIdeal.Val.aO m c := (ha c).2.2.2
      have h1 := h.1 c
      rw [e0, e1, e2, e3] at h1
      exact ⟨h1.1, h1.2.1, h1.2.2, (h.2 c).2.2.2⟩)
     (θ_run_and (Cert.ReferenceIdeal.Val.run m' g') (Cert.ReferenceIdeal.Value.run (F := Ideal) m' g'))⟩

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ref, preserves, algebraic⟩

end Cert.Proof

end
